-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "mean" .f32 0x3CA3D70A#32 ((1 / 50 : ℝ) : EReal)

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S4096x50 : Shape := ⟨2, ![4096, 50]⟩
abbrev S5002x800 : Shape := ⟨2, ![5002, 800]⟩
abbrev S800x2048 : Shape := ⟨2, ![800, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S5002x800 .f32) (main_arg2 : FVec F S800x2048 .f32) (main_arg3 : FVec F S2048 .f32) (main_arg4 : FVec F S2048x1024 .f32) (main_arg5 : FVec F S1024 .f32) (main_arg6 : FVec F S1024x512 .f32) (main_arg7 : FVec F S512 .f32) (main_arg8 : FVec F S512x256 .f32) (main_arg9 : FVec F S256 .f32) (main_arg10 : FVec F S256x2 .f32) (main_arg11 : FVec F S2 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 5002#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S5002x800 : Shape := ⟨2, ![5002, 800]⟩
abbrev S800x2048 : Shape := ⟨2, ![800, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S_ : Shape := ⟨0, ![]⟩
abbrev S4096x14 : Shape := ⟨2, ![4096, 14]⟩
abbrev S4096x64 : Shape := ⟨2, ![4096, 64]⟩
abbrev S4096x5008 : Shape := ⟨2, ![4096, 5008]⟩
abbrev S128x64 : Shape := ⟨2, ![128, 64]⟩
abbrev S8x5008 : Shape := ⟨2, ![8, 5008]⟩
abbrev S16 : Shape := ⟨1, ![16]⟩
abbrev S1x16 : Shape := ⟨2, ![1, 16]⟩
abbrev S5008x800 : Shape := ⟨2, ![5008, 800]⟩
abbrev S256x128 : Shape := ⟨2, ![256, 128]⟩
abbrev S128 : Shape := ⟨1, ![128]⟩
abbrev S1x2048 : Shape := ⟨2, ![1, 2048]⟩
abbrev S1x1024 : Shape := ⟨2, ![1, 1024]⟩
abbrev S1x512 : Shape := ⟨2, ![1, 512]⟩
abbrev S1x256 : Shape := ⟨2, ![1, 256]⟩
abbrev S1x128 : Shape := ⟨2, ![1, 128]⟩
abbrev S4096x128 : Shape := ⟨2, ![4096, 128]⟩
abbrev S512x5008 : Shape := ⟨2, ![512, 5008]⟩
abbrev S512x128 : Shape := ⟨2, ![512, 128]⟩
abbrev S512x800 : Shape := ⟨2, ![512, 800]⟩
abbrev S512x2048 : Shape := ⟨2, ![512, 2048]⟩
abbrev S512x1024 : Shape := ⟨2, ![512, 1024]⟩
abbrev S512x512 : Shape := ⟨2, ![512, 512]⟩
abbrev S4096x2 : Shape := ⟨2, ![4096, 2]⟩

abbrev nBuf : Table → Nat
  | .hbm => 38
  | .local .tc .vmem => 15
  | .local .scVector .vmem => 3
  | _ => 0

abbrev bufTy : (tb : Table) → Fin (nBuf tb) → BufTy
  | .hbm, ⟨0, _⟩ => ⟨S4096x50, .i32⟩
  | .hbm, ⟨1, _⟩ => ⟨S5002x800, .f32⟩
  | .hbm, ⟨2, _⟩ => ⟨S800x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256x2, .f32⟩
  | .hbm, ⟨11, _⟩ => ⟨S2, .f32⟩
  | .hbm, ⟨12, _⟩ => ⟨S_, .i32⟩
  | .hbm, ⟨13, _⟩ => ⟨S4096x14, .i32⟩
  | .hbm, ⟨14, _⟩ => ⟨S4096x64, .i32⟩
  | .hbm, ⟨15, _⟩ => ⟨S4096x5008, .f32⟩
  | .hbm, ⟨16, _⟩ => ⟨S_, .i32⟩
  | .hbm, ⟨17, _⟩ => ⟨S_, .f32⟩
  | .hbm, ⟨18, _⟩ => ⟨S5008x800, .f32⟩
  | .hbm, ⟨19, _⟩ => ⟨S5008x800, .bf16⟩
  | .hbm, ⟨20, _⟩ => ⟨S_, .i32⟩
  | .hbm, ⟨21, _⟩ => ⟨S_, .f32⟩
  | .hbm, ⟨22, _⟩ => ⟨S256x128, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S800x2048, .bf16⟩
  | .hbm, ⟨27, _⟩ => ⟨S1x2048, .f32⟩
  | .hbm, ⟨28, _⟩ => ⟨S2048x1024, .bf16⟩
  | .hbm, ⟨29, _⟩ => ⟨S1x1024, .f32⟩
  | .hbm, ⟨30, _⟩ => ⟨S1024x512, .bf16⟩
  | .hbm, ⟨31, _⟩ => ⟨S1x512, .f32⟩
  | .hbm, ⟨32, _⟩ => ⟨S512x256, .bf16⟩
  | .hbm, ⟨33, _⟩ => ⟨S1x256, .f32⟩
  | .hbm, ⟨34, _⟩ => ⟨S256x128, .bf16⟩
  | .hbm, ⟨35, _⟩ => ⟨S1x128, .f32⟩
  | .hbm, ⟨36, _⟩ => ⟨S4096x128, .f32⟩
  | .hbm, ⟨37, _⟩ => ⟨S4096x2, .f32⟩
  | .local .tc .vmem, ⟨0, _⟩ => ⟨S512x5008, .f32⟩
  | .local .tc .vmem, ⟨1, _⟩ => ⟨S512x5008, .f32⟩
  | .local .tc .vmem, ⟨2, _⟩ => ⟨S5008x800, .bf16⟩
  | .local .tc .vmem, ⟨3, _⟩ => ⟨S800x2048, .bf16⟩
  | .local .tc .vmem, ⟨4, _⟩ => ⟨S1x2048, .f32⟩
  | .local .tc .vmem, ⟨5, _⟩ => ⟨S2048x1024, .bf16⟩
  | .local .tc .vmem, ⟨6, _⟩ => ⟨S1x1024, .f32⟩
  | .local .tc .vmem, ⟨7, _⟩ => ⟨S1024x512, .bf16⟩
  | .local .tc .vmem, ⟨8, _⟩ => ⟨S1x512, .f32⟩
  | .local .tc .vmem, ⟨9, _⟩ => ⟨S512x256, .bf16⟩
  | .local .tc .vmem, ⟨10, _⟩ => ⟨S1x256, .f32⟩
  | .local .tc .vmem, ⟨11, _⟩ => ⟨S256x128, .bf16⟩
  | .local .tc .vmem, ⟨12, _⟩ => ⟨S1x128, .f32⟩
  | .local .tc .vmem, ⟨13, _⟩ => ⟨S512x128, .f32⟩
  | .local .tc .vmem, ⟨14, _⟩ => ⟨S512x128, .f32⟩
  | .local .scVector .vmem, ⟨0, _⟩ => ⟨S128x64, .i32⟩
  | .local .scVector .vmem, ⟨1, _⟩ => ⟨S8x5008, .f32⟩
  | .local .scVector .vmem, ⟨2, _⟩ => ⟨S8x5008, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_call0_v0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_call1_v0 : Ref sig .tc := ⟨.hbm, 21, rfl⟩
abbrev main_v5 : Ref sig .tc := ⟨.hbm, 22, rfl⟩
abbrev main_c_2 : Ref sig .tc := ⟨.hbm, 23, rfl⟩
abbrev main_call2_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v1_scv : Ref sig .scVector := ⟨.hbm, 14, rfl⟩
abbrev main_v2_scv : Ref sig .scVector := ⟨.hbm, 15, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.vmem, 11, rfl⟩
abbrev cc1_stg11_0 : Ref sig .tc := ⟨.vmem, 12, rfl⟩
abbrev cc1_stg12_0 : Ref sig .tc := ⟨.vmem, 13, rfl⟩
abbrev cc1_stg12_1 : Ref sig .tc := ⟨.vmem, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev cc1_sem12_0 : DmaSem sig := 16
abbrev cc1_sem12_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_16_r0 : BitVec 32 := 0#32
  ![v2.toNat, 0]
@[reducible] def k0_t1_loop : Scf.Loop 32 :=
  let c0_i32_0 : BitVec 32 := 0#32
  let c8_i32 : BitVec 32 := 8#32
  let v4 : BitVec 32 := Scalar.addi c0_i32_0 c8_i32
  let c1_i32 : BitVec 32 := 1#32
  ⟨c0_i32_0, v4, c1_i32⟩
@[reducible] def k0_t2_loop : Scf.Loop 32 :=
  let c0_i32_16 : BitVec 32 := 0#32
  let c313_i32 : BitVec 32 := 313#32
  let v11 : BitVec 32 := Scalar.addi c0_i32_16 c313_i32
  let c1_i32_17 : BitVec 32 := 1#32
  ⟨c0_i32_16, v11, c1_i32_17⟩
def k0_off2 (k0_t1 : Fin k0_t1_loop.trips) (k0_t2 : Fin k0_t2_loop.trips) : Fin 2 → Nat :=
  let c0_i32_0 : BitVec 32 := 0#32
  let c1_i32 : BitVec 32 := 1#32
  let arg9 : BitVec 32 := Scf.iv c0_i32_0 c1_i32 k0_t1
  let v13 : Index := Scalar.indexCast arg9
  let c0_i32_16 : BitVec 32 := 0#32
  let c1_i32_17 : BitVec 32 := 1#32
  let arg10 : BitVec 32 := Scf.iv c0_i32_16 c1_i32_17 k0_t2
  let c16_i32 : BitVec 32 := 16#32
  let v12 : BitVec 32 := Scalar.muli arg10 c16_i32
  let v14 : Index := Scalar.indexCast v12
  ![v13.toNat, v14.toNat]
@[reducible] def k0_t3_loop : Scf.Loop 32 :=
  let c0_i32_3 : BitVec 32 := 0#32
  let c8_i32_4 : BitVec 32 := 8#32
  let v5 : BitVec 32 := Scalar.addi c0_i32_3 c8_i32_4
  let c1_i32_5 : BitVec 32 := 1#32
  ⟨c0_i32_3, v5, c1_i32_5⟩
@[reducible] def k0_t4_loop : Scf.Loop 32 :=
  let c0_i32_16 : BitVec 32 := 0#32
  let c313_i32 : BitVec 32 := 313#32
  let v11 : BitVec 32 := Scalar.addi c0_i32_16 c313_i32
  let c1_i32_17 : BitVec 32 := 1#32
  ⟨c0_i32_16, v11, c1_i32_17⟩
def k0_off3 (k0_t3 : Fin k0_t3_loop.trips) (k0_t4 : Fin k0_t4_loop.trips) : Fin 2 → Nat :=
  let c0_i32_3 : BitVec 32 := 0#32
  let c1_i32_5 : BitVec 32 := 1#32
  let arg9 : BitVec 32 := Scf.iv c0_i32_3 c1_i32_5 k0_t3
  let v13 : Index := Scalar.indexCast arg9
  let c0_i32_16 : BitVec 32 := 0#32
  let c1_i32_17 : BitVec 32 := 1#32
  let arg10 : BitVec 32 := Scf.iv c0_i32_16 c1_i32_17 k0_t4
  let c16_i32 : BitVec 32 := 16#32
  let v12 : BitVec 32 := Scalar.muli arg10 c16_i32
  let v14 : Index := Scalar.indexCast v12
  ![v13.toNat, v14.toNat]
@[reducible] def k0_t5_loop : Scf.Loop 32 :=
  let c0_i32_8 : BitVec 32 := 0#32
  let c8_i32_9 : BitVec 32 := 8#32
  let v6 : BitVec 32 := Scalar.addi c0_i32_8 c8_i32_9
  let c1_i32_10 : BitVec 32 := 1#32
  ⟨c0_i32_8, v6, c1_i32_10⟩
def k0_cond1 (k0_t5 : Fin k0_t5_loop.trips) : BitVec 1 :=
  let c2_i32_16 : BitVec 32 := 2#32
  let c0_i32_8 : BitVec 32 := 0#32
  let c1_i32_10 : BitVec 32 := 1#32
  let arg9 : BitVec 32 := Scf.iv c0_i32_8 c1_i32_10 k0_t5
  let v11 : BitVec 32 := Scalar.muli c2_i32_16 arg9
  let c2_i32_17 : BitVec 32 := 2#32
  let v12 : BitVec 1 := Scalar.cmpi .sge v11 c2_i32_17
  let v13 : BitVec 32 := Scalar.extui v12
  let c0_i32_18 : BitVec 32 := 0#32
  let v14 : BitVec 1 := Scalar.cmpi .ne v13 c0_i32_18
  v14

def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_39 : BitVec 32 := 0#32
  ![v2.toNat, 0]
@[reducible] def k0_t6_loop : Scf.Loop 32 :=
  let c0_i32_20 : BitVec 32 := 0#32
  let c8_i32_21 : BitVec 32 := 8#32
  let v15 : BitVec 32 := Scalar.addi c0_i32_20 c8_i32_21
  let c1_i32_22 : BitVec 32 := 1#32
  ⟨c0_i32_20, v15, c1_i32_22⟩
def k0_cond2 (k0_t5 : Fin k0_t5_loop.trips) : BitVec 1 :=
  let c2_i32_16 : BitVec 32 := 2#32
  let c0_i32_8 : BitVec 32 := 0#32
  let c1_i32_10 : BitVec 32 := 1#32
  let arg9 : BitVec 32 := Scf.iv c0_i32_8 c1_i32_10 k0_t5
  let v11 : BitVec 32 := Scalar.muli c2_i32_16 arg9
  let c2_i32_40 : BitVec 32 := 2#32
  let v33 : BitVec 1 := Scalar.cmpi .sge v11 c2_i32_40
  let v34 : BitVec 32 := Scalar.extui v33
  let c0_i32_41 : BitVec 32 := 0#32
  let v35 : BitVec 1 := Scalar.cmpi .ne v34 c0_i32_41
  v35

def k0_off5 (k0_t5 : Fin k0_t5_loop.trips) (k0_t6 : Fin k0_t6_loop.trips) : Fin 2 → Nat :=
  let c2_i32_16 : BitVec 32 := 2#32
  let c0_i32_8 : BitVec 32 := 0#32
  let c1_i32_10 : BitVec 32 := 1#32
  let arg9 : BitVec 32 := Scf.iv c0_i32_8 c1_i32_10 k0_t5
  let v11 : BitVec 32 := Scalar.muli c2_i32_16 arg9
  let c8_i32_39 : BitVec 32 := 8#32
  let v30 : BitVec 32 := Scalar.muli v11 c8_i32_39
  let c0_i32_20 : BitVec 32 := 0#32
  let c1_i32_22 : BitVec 32 := 1#32
  let arg10 : BitVec 32 := Scf.iv c0_i32_20 c1_i32_22 k0_t6
  let v31 : BitVec 32 := Scalar.addi v30 arg10
  let c16_i32 : BitVec 32 := 16#32
  let v52 : BitVec 32 := Scalar.subi v31 c16_i32
  let v53 : Index := Scalar.indexCast v52
  let c0_51 : Index := 0#32
  ![v53.toNat, 0]

def k0_chk1 (k0_t5 : Fin k0_t5_loop.trips) (v32 : IVec S16 32) (v54 : IVec S16 32) : Prop :=
  (∀ (k0_h2 : k0_cond2 k0_t5 = 1#1), ∀ a x, ((![v32, v54] : Fin 2 → IVec S16 32) a x).toNat < S8x5008.size a)
theorem k0_idx1_inb : ∀ (k0_t5 : Fin k0_t5_loop.trips) (v32 : IVec S16 32) (v54 : IVec S16 32) (k0_hw1 : k0_chk1 k0_t5 v32 v54), ∀ (k0_h2 : k0_cond2 k0_t5 = 1#1), ∀ a x, ((![v32, v54] : Fin 2 → IVec S16 32) a x).toNat < S8x5008.size a := fun k0_t5 v32 v54 k0_hw1 k0_h2 => k0_hw1 k0_h2
def k0_off6 (k0_t5 : Fin k0_t5_loop.trips) (k0_t6 : Fin k0_t6_loop.trips) : Fin 2 → Nat :=
  let c2_i32_16 : BitVec 32 := 2#32
  let c0_i32_8 : BitVec 32 := 0#32
  let c1_i32_10 : BitVec 32 := 1#32
  let arg9 : BitVec 32 := Scf.iv c0_i32_8 c1_i32_10 k0_t5
  let v11 : BitVec 32 := Scalar.muli c2_i32_16 arg9
  let c8_i32_39 : BitVec 32 := 8#32
  let v30 : BitVec 32 := Scalar.muli v11 c8_i32_39
  let c0_i32_20 : BitVec 32 := 0#32
  let c1_i32_22 : BitVec 32 := 1#32
  let arg10 : BitVec 32 := Scf.iv c0_i32_20 c1_i32_22 k0_t6
  let v31 : BitVec 32 := Scalar.addi v30 arg10
  let c16_i32_52 : BitVec 32 := 16#32
  let v55 : BitVec 32 := Scalar.subi v31 c16_i32_52
  let v56 : Index := Scalar.indexCast v55
  let c16_53 : Index := 16#32
  ![v56.toNat, 16]

def k0_chk2 (k0_t5 : Fin k0_t5_loop.trips) (v32 : IVec S16 32) (v57 : IVec S16 32) : Prop :=
  (∀ (k0_h2 : k0_cond2 k0_t5 = 1#1), ∀ a x, ((![v32, v57] : Fin 2 → IVec S16 32) a x).toNat < S8x5008.size a)
theorem k0_idx2_inb : ∀ (k0_t5 : Fin k0_t5_loop.trips) (v32 : IVec S16 32) (v57 : IVec S16 32) (k0_hw2 : k0_chk2 k0_t5 v32 v57), ∀ (k0_h2 : k0_cond2 k0_t5 = 1#1), ∀ a x, ((![v32, v57] : Fin 2 → IVec S16 32) a x).toNat < S8x5008.size a := fun k0_t5 v32 v57 k0_hw2 k0_h2 => k0_hw2 k0_h2
def k0_off7 (k0_t5 : Fin k0_t5_loop.trips) (k0_t6 : Fin k0_t6_loop.trips) : Fin 2 → Nat :=
  let c2_i32_16 : BitVec 32 := 2#32
  let c0_i32_8 : BitVec 32 := 0#32
  let c1_i32_10 : BitVec 32 := 1#32
  let arg9 : BitVec 32 := Scf.iv c0_i32_8 c1_i32_10 k0_t5
  let v11 : BitVec 32 := Scalar.muli c2_i32_16 arg9
  let c8_i32_39 : BitVec 32 := 8#32
  let v30 : BitVec 32 := Scalar.muli v11 c8_i32_39
  let c0_i32_20 : BitVec 32 := 0#32
  let c1_i32_22 : BitVec 32 := 1#32
  let arg10 : BitVec 32 := Scf.iv c0_i32_20 c1_i32_22 k0_t6
  let v31 : BitVec 32 := Scalar.addi v30 arg10
  let c16_i32_54 : BitVec 32 := 16#32
  let v58 : BitVec 32 := Scalar.subi v31 c16_i32_54
  let v59 : Index := Scalar.indexCast v58
  let c32_55 : Index := 32#32
  ![v59.toNat, 32]

def k0_chk3 (k0_t5 : Fin k0_t5_loop.trips) (v32 : IVec S16 32) (v60 : IVec S16 32) : Prop :=
  (∀ (k0_h2 : k0_cond2 k0_t5 = 1#1), ∀ a x, ((![v32, v60] : Fin 2 → IVec S16 32) a x).toNat < S8x5008.size a)
theorem k0_idx3_inb : ∀ (k0_t5 : Fin k0_t5_loop.trips) (v32 : IVec S16 32) (v60 : IVec S16 32) (k0_hw3 : k0_chk3 k0_t5 v32 v60), ∀ (k0_h2 : k0_cond2 k0_t5 = 1#1), ∀ a x, ((![v32, v60] : Fin 2 → IVec S16 32) a x).toNat < S8x5008.size a := fun k0_t5 v32 v60 k0_hw3 k0_h2 => k0_hw3 k0_h2
def k0_off8 (k0_t5 : Fin k0_t5_loop.trips) (k0_t6 : Fin k0_t6_loop.trips) : Fin 2 → Nat :=
  let c2_i32_16 : BitVec 32 := 2#32
  let c0_i32_8 : BitVec 32 := 0#32
  let c1_i32_10 : BitVec 32 := 1#32
  let arg9 : BitVec 32 := Scf.iv c0_i32_8 c1_i32_10 k0_t5
  let v11 : BitVec 32 := Scalar.muli c2_i32_16 arg9
  let c8_i32_39 : BitVec 32 := 8#32
  let v30 : BitVec 32 := Scalar.muli v11 c8_i32_39
  let c0_i32_20 : BitVec 32 := 0#32
  let c1_i32_22 : BitVec 32 := 1#32
  let arg10 : BitVec 32 := Scf.iv c0_i32_20 c1_i32_22 k0_t6
  let v31 : BitVec 32 := Scalar.addi v30 arg10
  let c16_i32_56 : BitVec 32 := 16#32
  let v61 : BitVec 32 := Scalar.subi v31 c16_i32_56
  let v62 : Index := Scalar.indexCast v61
  let c48_57 : Index := 48#32
  ![v62.toNat, 48]

def k0_chk4 (k0_t5 : Fin k0_t5_loop.trips) (v32 : IVec S16 32) (v63 : IVec S16 32) : Prop :=
  (∀ (k0_h2 : k0_cond2 k0_t5 = 1#1), ∀ a x, ((![v32, v63] : Fin 2 → IVec S16 32) a x).toNat < S8x5008.size a)
theorem k0_idx4_inb : ∀ (k0_t5 : Fin k0_t5_loop.trips) (v32 : IVec S16 32) (v63 : IVec S16 32) (k0_hw4 : k0_chk4 k0_t5 v32 v63), ∀ (k0_h2 : k0_cond2 k0_t5 = 1#1), ∀ a x, ((![v32, v63] : Fin 2 → IVec S16 32) a x).toNat < S8x5008.size a := fun k0_t5 v32 v63 k0_hw4 k0_h2 => k0_hw4 k0_h2
def k0_off9 (k0_t5 : Fin k0_t5_loop.trips) (k0_t6 : Fin k0_t6_loop.trips) : Fin 2 → Nat :=
  let c2_i32_16 : BitVec 32 := 2#32
  let c0_i32_8 : BitVec 32 := 0#32
  let c1_i32_10 : BitVec 32 := 1#32
  let arg9 : BitVec 32 := Scf.iv c0_i32_8 c1_i32_10 k0_t5
  let v11 : BitVec 32 := Scalar.muli c2_i32_16 arg9
  let c8_i32_39 : BitVec 32 := 8#32
  let v30 : BitVec 32 := Scalar.muli v11 c8_i32_39
  let c0_i32_20 : BitVec 32 := 0#32
  let c1_i32_22 : BitVec 32 := 1#32
  let arg10 : BitVec 32 := Scf.iv c0_i32_20 c1_i32_22 k0_t6
  let v31 : BitVec 32 := Scalar.addi v30 arg10
  let v36 : Index := Scalar.indexCast v31
  let c0 : Index := 0#32
  ![v36.toNat, 0]

def k0_chk5 (v32 : IVec S16 32) (v37 : IVec S16 32) : Prop :=
  (∀ a x, ((![v32, v37] : Fin 2 → IVec S16 32) a x).toNat < S8x5008.size a)
theorem k0_idx5_inb : ∀ (v32 : IVec S16 32) (v37 : IVec S16 32) (k0_hw5 : k0_chk5 v32 v37), ∀ a x, ((![v32, v37] : Fin 2 → IVec S16 32) a x).toNat < S8x5008.size a := fun v32 v37 k0_hw5 => k0_hw5
def k0_off10 (k0_t5 : Fin k0_t5_loop.trips) (k0_t6 : Fin k0_t6_loop.trips) : Fin 2 → Nat :=
  let c2_i32_16 : BitVec 32 := 2#32
  let c0_i32_8 : BitVec 32 := 0#32
  let c1_i32_10 : BitVec 32 := 1#32
  let arg9 : BitVec 32 := Scf.iv c0_i32_8 c1_i32_10 k0_t5
  let v11 : BitVec 32 := Scalar.muli c2_i32_16 arg9
  let c8_i32_39 : BitVec 32 := 8#32
  let v30 : BitVec 32 := Scalar.muli v11 c8_i32_39
  let c0_i32_20 : BitVec 32 := 0#32
  let c1_i32_22 : BitVec 32 := 1#32
  let arg10 : BitVec 32 := Scf.iv c0_i32_20 c1_i32_22 k0_t6
  let v31 : BitVec 32 := Scalar.addi v30 arg10
  let v40 : Index := Scalar.indexCast v31
  let c16 : Index := 16#32
  ![v40.toNat, 16]

def k0_chk6 (v32 : IVec S16 32) (v41 : IVec S16 32) : Prop :=
  (∀ a x, ((![v32, v41] : Fin 2 → IVec S16 32) a x).toNat < S8x5008.size a)
theorem k0_idx6_inb : ∀ (v32 : IVec S16 32) (v41 : IVec S16 32) (k0_hw6 : k0_chk6 v32 v41), ∀ a x, ((![v32, v41] : Fin 2 → IVec S16 32) a x).toNat < S8x5008.size a := fun v32 v41 k0_hw6 => k0_hw6
def k0_off11 (k0_t5 : Fin k0_t5_loop.trips) (k0_t6 : Fin k0_t6_loop.trips) : Fin 2 → Nat :=
  let c2_i32_16 : BitVec 32 := 2#32
  let c0_i32_8 : BitVec 32 := 0#32
  let c1_i32_10 : BitVec 32 := 1#32
  let arg9 : BitVec 32 := Scf.iv c0_i32_8 c1_i32_10 k0_t5
  let v11 : BitVec 32 := Scalar.muli c2_i32_16 arg9
  let c8_i32_39 : BitVec 32 := 8#32
  let v30 : BitVec 32 := Scalar.muli v11 c8_i32_39
  let c0_i32_20 : BitVec 32 := 0#32
  let c1_i32_22 : BitVec 32 := 1#32
  let arg10 : BitVec 32 := Scf.iv c0_i32_20 c1_i32_22 k0_t6
  let v31 : BitVec 32 := Scalar.addi v30 arg10
  let v44 : Index := Scalar.indexCast v31
  let c32 : Index := 32#32
  ![v44.toNat, 32]

def k0_chk7 (v32 : IVec S16 32) (v45 : IVec S16 32) : Prop :=
  (∀ a x, ((![v32, v45] : Fin 2 → IVec S16 32) a x).toNat < S8x5008.size a)
theorem k0_idx7_inb : ∀ (v32 : IVec S16 32) (v45 : IVec S16 32) (k0_hw7 : k0_chk7 v32 v45), ∀ a x, ((![v32, v45] : Fin 2 → IVec S16 32) a x).toNat < S8x5008.size a := fun v32 v45 k0_hw7 => k0_hw7
def k0_off12 (k0_t5 : Fin k0_t5_loop.trips) (k0_t6 : Fin k0_t6_loop.trips) : Fin 2 → Nat :=
  let c2_i32_16 : BitVec 32 := 2#32
  let c0_i32_8 : BitVec 32 := 0#32
  let c1_i32_10 : BitVec 32 := 1#32
  let arg9 : BitVec 32 := Scf.iv c0_i32_8 c1_i32_10 k0_t5
  let v11 : BitVec 32 := Scalar.muli c2_i32_16 arg9
  let c8_i32_39 : BitVec 32 := 8#32
  let v30 : BitVec 32 := Scalar.muli v11 c8_i32_39
  let c0_i32_20 : BitVec 32 := 0#32
  let c1_i32_22 : BitVec 32 := 1#32
  let arg10 : BitVec 32 := Scf.iv c0_i32_20 c1_i32_22 k0_t6
  let v31 : BitVec 32 := Scalar.addi v30 arg10
  let v48 : Index := Scalar.indexCast v31
  let c48 : Index := 48#32
  ![v48.toNat, 48]

def k0_chk8 (v32 : IVec S16 32) (v49 : IVec S16 32) : Prop :=
  (∀ a x, ((![v32, v49] : Fin 2 → IVec S16 32) a x).toNat < S8x5008.size a)
theorem k0_idx8_inb : ∀ (v32 : IVec S16 32) (v49 : IVec S16 32) (k0_hw8 : k0_chk8 v32 v49), ∀ a x, ((![v32, v49] : Fin 2 → IVec S16 32) a x).toNat < S8x5008.size a := fun v32 v49 k0_hw8 => k0_hw8
def k0_off13 (i : grid0.Coords) (k0_t5 : Fin k0_t5_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_16 : BitVec 32 := 2#32
  let c0_i32_8 : BitVec 32 := 0#32
  let c1_i32_10 : BitVec 32 := 1#32
  let arg9 : BitVec 32 := Scf.iv c0_i32_8 c1_i32_10 k0_t5
  let v11 : BitVec 32 := Scalar.muli c2_i32_16 arg9
  let c8_i32_24 : BitVec 32 := 8#32
  let v16 : BitVec 32 := Scalar.muli v11 c8_i32_24
  let v17 : BitVec 32 := Scalar.addi v2 v16
  let c0_i32_25 : BitVec 32 := 0#32
  ![v17.toNat, 0]
def k0_cond3 (k0_t5 : Fin k0_t5_loop.trips) : BitVec 1 :=
  let c2_i32_27 : BitVec 32 := 2#32
  let c0_i32_8 : BitVec 32 := 0#32
  let c1_i32_10 : BitVec 32 := 1#32
  let arg9 : BitVec 32 := Scf.iv c0_i32_8 c1_i32_10 k0_t5
  let v20 : BitVec 32 := Scalar.muli c2_i32_27 arg9
  let c1_i32_28 : BitVec 32 := 1#32
  let v21 : BitVec 32 := Scalar.addi v20 c1_i32_28
  let c2_i32_29 : BitVec 32 := 2#32
  let v22 : BitVec 1 := Scalar.cmpi .sge v21 c2_i32_29
  let v23 : BitVec 32 := Scalar.extui v22
  let c0_i32_30 : BitVec 32 := 0#32
  let v24 : BitVec 1 := Scalar.cmpi .ne v23 c0_i32_30
  v24

def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_39 : BitVec 32 := 0#32
  ![v2.toNat, 0]
@[reducible] def k0_t7_loop : Scf.Loop 32 :=
  let c0_i32_32 : BitVec 32 := 0#32
  let c8_i32_33 : BitVec 32 := 8#32
  let v25 : BitVec 32 := Scalar.addi c0_i32_32 c8_i32_33
  let c1_i32_34 : BitVec 32 := 1#32
  ⟨c0_i32_32, v25, c1_i32_34⟩
def k0_cond4 (k0_t5 : Fin k0_t5_loop.trips) : BitVec 1 :=
  let c2_i32_27 : BitVec 32 := 2#32
  let c0_i32_8 : BitVec 32 := 0#32
  let c1_i32_10 : BitVec 32 := 1#32
  let arg9 : BitVec 32 := Scf.iv c0_i32_8 c1_i32_10 k0_t5
  let v20 : BitVec 32 := Scalar.muli c2_i32_27 arg9
  let c1_i32_28 : BitVec 32 := 1#32
  let v21 : BitVec 32 := Scalar.addi v20 c1_i32_28
  let c2_i32_40 : BitVec 32 := 2#32
  let v33 : BitVec 1 := Scalar.cmpi .sge v21 c2_i32_40
  let v34 : BitVec 32 := Scalar.extui v33
  let c0_i32_41 : BitVec 32 := 0#32
  let v35 : BitVec 1 := Scalar.cmpi .ne v34 c0_i32_41
  v35

def k0_off15 (k0_t5 : Fin k0_t5_loop.trips) (k0_t7 : Fin k0_t7_loop.trips) : Fin 2 → Nat :=
  let c2_i32_27 : BitVec 32 := 2#32
  let c0_i32_8 : BitVec 32 := 0#32
  let c1_i32_10 : BitVec 32 := 1#32
  let arg9 : BitVec 32 := Scf.iv c0_i32_8 c1_i32_10 k0_t5
  let v20 : BitVec 32 := Scalar.muli c2_i32_27 arg9
  let c1_i32_28 : BitVec 32 := 1#32
  let v21 : BitVec 32 := Scalar.addi v20 c1_i32_28
  let c8_i32_39 : BitVec 32 := 8#32
  let v30 : BitVec 32 := Scalar.muli v21 c8_i32_39
  let c0_i32_32 : BitVec 32 := 0#32
  let c1_i32_34 : BitVec 32 := 1#32
  let arg10 : BitVec 32 := Scf.iv c0_i32_32 c1_i32_34 k0_t7
  let v31 : BitVec 32 := Scalar.addi v30 arg10
  let c16_i32 : BitVec 32 := 16#32
  let v52 : BitVec 32 := Scalar.subi v31 c16_i32
  let v53 : Index := Scalar.indexCast v52
  let c0_51 : Index := 0#32
  ![v53.toNat, 0]

def k0_chk9 (k0_t5 : Fin k0_t5_loop.trips) (v32 : IVec S16 32) (v54 : IVec S16 32) : Prop :=
  (∀ (k0_h4 : k0_cond4 k0_t5 = 1#1), ∀ a x, ((![v32, v54] : Fin 2 → IVec S16 32) a x).toNat < S8x5008.size a)
theorem k0_idx9_inb : ∀ (k0_t5 : Fin k0_t5_loop.trips) (v32 : IVec S16 32) (v54 : IVec S16 32) (k0_hw9 : k0_chk9 k0_t5 v32 v54), ∀ (k0_h4 : k0_cond4 k0_t5 = 1#1), ∀ a x, ((![v32, v54] : Fin 2 → IVec S16 32) a x).toNat < S8x5008.size a := fun k0_t5 v32 v54 k0_hw9 k0_h4 => k0_hw9 k0_h4
def k0_off16 (k0_t5 : Fin k0_t5_loop.trips) (k0_t7 : Fin k0_t7_loop.trips) : Fin 2 → Nat :=
  let c2_i32_27 : BitVec 32 := 2#32
  let c0_i32_8 : BitVec 32 := 0#32
  let c1_i32_10 : BitVec 32 := 1#32
  let arg9 : BitVec 32 := Scf.iv c0_i32_8 c1_i32_10 k0_t5
  let v20 : BitVec 32 := Scalar.muli c2_i32_27 arg9
  let c1_i32_28 : BitVec 32 := 1#32
  let v21 : BitVec 32 := Scalar.addi v20 c1_i32_28
  let c8_i32_39 : BitVec 32 := 8#32
  let v30 : BitVec 32 := Scalar.muli v21 c8_i32_39
  let c0_i32_32 : BitVec 32 := 0#32
  let c1_i32_34 : BitVec 32 := 1#32
  let arg10 : BitVec 32 := Scf.iv c0_i32_32 c1_i32_34 k0_t7
  let v31 : BitVec 32 := Scalar.addi v30 arg10
  let c16_i32_52 : BitVec 32 := 16#32
  let v55 : BitVec 32 := Scalar.subi v31 c16_i32_52
  let v56 : Index := Scalar.indexCast v55
  let c16_53 : Index := 16#32
  ![v56.toNat, 16]

def k0_chk10 (k0_t5 : Fin k0_t5_loop.trips) (v32 : IVec S16 32) (v57 : IVec S16 32) : Prop :=
  (∀ (k0_h4 : k0_cond4 k0_t5 = 1#1), ∀ a x, ((![v32, v57] : Fin 2 → IVec S16 32) a x).toNat < S8x5008.size a)
theorem k0_idx10_inb : ∀ (k0_t5 : Fin k0_t5_loop.trips) (v32 : IVec S16 32) (v57 : IVec S16 32) (k0_hw10 : k0_chk10 k0_t5 v32 v57), ∀ (k0_h4 : k0_cond4 k0_t5 = 1#1), ∀ a x, ((![v32, v57] : Fin 2 → IVec S16 32) a x).toNat < S8x5008.size a := fun k0_t5 v32 v57 k0_hw10 k0_h4 => k0_hw10 k0_h4
def k0_off17 (k0_t5 : Fin k0_t5_loop.trips) (k0_t7 : Fin k0_t7_loop.trips) : Fin 2 → Nat :=
  let c2_i32_27 : BitVec 32 := 2#32
  let c0_i32_8 : BitVec 32 := 0#32
  let c1_i32_10 : BitVec 32 := 1#32
  let arg9 : BitVec 32 := Scf.iv c0_i32_8 c1_i32_10 k0_t5
  let v20 : BitVec 32 := Scalar.muli c2_i32_27 arg9
  let c1_i32_28 : BitVec 32 := 1#32
  let v21 : BitVec 32 := Scalar.addi v20 c1_i32_28
  let c8_i32_39 : BitVec 32 := 8#32
  let v30 : BitVec 32 := Scalar.muli v21 c8_i32_39
  let c0_i32_32 : BitVec 32 := 0#32
  let c1_i32_34 : BitVec 32 := 1#32
  let arg10 : BitVec 32 := Scf.iv c0_i32_32 c1_i32_34 k0_t7
  let v31 : BitVec 32 := Scalar.addi v30 arg10
  let c16_i32_54 : BitVec 32 := 16#32
  let v58 : BitVec 32 := Scalar.subi v31 c16_i32_54
  let v59 : Index := Scalar.indexCast v58
  let c32_55 : Index := 32#32
  ![v59.toNat, 32]

def k0_chk11 (k0_t5 : Fin k0_t5_loop.trips) (v32 : IVec S16 32) (v60 : IVec S16 32) : Prop :=
  (∀ (k0_h4 : k0_cond4 k0_t5 = 1#1), ∀ a x, ((![v32, v60] : Fin 2 → IVec S16 32) a x).toNat < S8x5008.size a)
theorem k0_idx11_inb : ∀ (k0_t5 : Fin k0_t5_loop.trips) (v32 : IVec S16 32) (v60 : IVec S16 32) (k0_hw11 : k0_chk11 k0_t5 v32 v60), ∀ (k0_h4 : k0_cond4 k0_t5 = 1#1), ∀ a x, ((![v32, v60] : Fin 2 → IVec S16 32) a x).toNat < S8x5008.size a := fun k0_t5 v32 v60 k0_hw11 k0_h4 => k0_hw11 k0_h4
def k0_off18 (k0_t5 : Fin k0_t5_loop.trips) (k0_t7 : Fin k0_t7_loop.trips) : Fin 2 → Nat :=
  let c2_i32_27 : BitVec 32 := 2#32
  let c0_i32_8 : BitVec 32 := 0#32
  let c1_i32_10 : BitVec 32 := 1#32
  let arg9 : BitVec 32 := Scf.iv c0_i32_8 c1_i32_10 k0_t5
  let v20 : BitVec 32 := Scalar.muli c2_i32_27 arg9
  let c1_i32_28 : BitVec 32 := 1#32
  let v21 : BitVec 32 := Scalar.addi v20 c1_i32_28
  let c8_i32_39 : BitVec 32 := 8#32
  let v30 : BitVec 32 := Scalar.muli v21 c8_i32_39
  let c0_i32_32 : BitVec 32 := 0#32
  let c1_i32_34 : BitVec 32 := 1#32
  let arg10 : BitVec 32 := Scf.iv c0_i32_32 c1_i32_34 k0_t7
  let v31 : BitVec 32 := Scalar.addi v30 arg10
  let c16_i32_56 : BitVec 32 := 16#32
  let v61 : BitVec 32 := Scalar.subi v31 c16_i32_56
  let v62 : Index := Scalar.indexCast v61
  let c48_57 : Index := 48#32
  ![v62.toNat, 48]

def k0_chk12 (k0_t5 : Fin k0_t5_loop.trips) (v32 : IVec S16 32) (v63 : IVec S16 32) : Prop :=
  (∀ (k0_h4 : k0_cond4 k0_t5 = 1#1), ∀ a x, ((![v32, v63] : Fin 2 → IVec S16 32) a x).toNat < S8x5008.size a)
theorem k0_idx12_inb : ∀ (k0_t5 : Fin k0_t5_loop.trips) (v32 : IVec S16 32) (v63 : IVec S16 32) (k0_hw12 : k0_chk12 k0_t5 v32 v63), ∀ (k0_h4 : k0_cond4 k0_t5 = 1#1), ∀ a x, ((![v32, v63] : Fin 2 → IVec S16 32) a x).toNat < S8x5008.size a := fun k0_t5 v32 v63 k0_hw12 k0_h4 => k0_hw12 k0_h4
def k0_off19 (k0_t5 : Fin k0_t5_loop.trips) (k0_t7 : Fin k0_t7_loop.trips) : Fin 2 → Nat :=
  let c2_i32_27 : BitVec 32 := 2#32
  let c0_i32_8 : BitVec 32 := 0#32
  let c1_i32_10 : BitVec 32 := 1#32
  let arg9 : BitVec 32 := Scf.iv c0_i32_8 c1_i32_10 k0_t5
  let v20 : BitVec 32 := Scalar.muli c2_i32_27 arg9
  let c1_i32_28 : BitVec 32 := 1#32
  let v21 : BitVec 32 := Scalar.addi v20 c1_i32_28
  let c8_i32_39 : BitVec 32 := 8#32
  let v30 : BitVec 32 := Scalar.muli v21 c8_i32_39
  let c0_i32_32 : BitVec 32 := 0#32
  let c1_i32_34 : BitVec 32 := 1#32
  let arg10 : BitVec 32 := Scf.iv c0_i32_32 c1_i32_34 k0_t7
  let v31 : BitVec 32 := Scalar.addi v30 arg10
  let v36 : Index := Scalar.indexCast v31
  let c0 : Index := 0#32
  ![v36.toNat, 0]

def k0_chk13 (v32 : IVec S16 32) (v37 : IVec S16 32) : Prop :=
  (∀ a x, ((![v32, v37] : Fin 2 → IVec S16 32) a x).toNat < S8x5008.size a)
theorem k0_idx13_inb : ∀ (v32 : IVec S16 32) (v37 : IVec S16 32) (k0_hw13 : k0_chk13 v32 v37), ∀ a x, ((![v32, v37] : Fin 2 → IVec S16 32) a x).toNat < S8x5008.size a := fun v32 v37 k0_hw13 => k0_hw13
def k0_off20 (k0_t5 : Fin k0_t5_loop.trips) (k0_t7 : Fin k0_t7_loop.trips) : Fin 2 → Nat :=
  let c2_i32_27 : BitVec 32 := 2#32
  let c0_i32_8 : BitVec 32 := 0#32
  let c1_i32_10 : BitVec 32 := 1#32
  let arg9 : BitVec 32 := Scf.iv c0_i32_8 c1_i32_10 k0_t5
  let v20 : BitVec 32 := Scalar.muli c2_i32_27 arg9
  let c1_i32_28 : BitVec 32 := 1#32
  let v21 : BitVec 32 := Scalar.addi v20 c1_i32_28
  let c8_i32_39 : BitVec 32 := 8#32
  let v30 : BitVec 32 := Scalar.muli v21 c8_i32_39
  let c0_i32_32 : BitVec 32 := 0#32
  let c1_i32_34 : BitVec 32 := 1#32
  let arg10 : BitVec 32 := Scf.iv c0_i32_32 c1_i32_34 k0_t7
  let v31 : BitVec 32 := Scalar.addi v30 arg10
  let v40 : Index := Scalar.indexCast v31
  let c16 : Index := 16#32
  ![v40.toNat, 16]

def k0_chk14 (v32 : IVec S16 32) (v41 : IVec S16 32) : Prop :=
  (∀ a x, ((![v32, v41] : Fin 2 → IVec S16 32) a x).toNat < S8x5008.size a)
theorem k0_idx14_inb : ∀ (v32 : IVec S16 32) (v41 : IVec S16 32) (k0_hw14 : k0_chk14 v32 v41), ∀ a x, ((![v32, v41] : Fin 2 → IVec S16 32) a x).toNat < S8x5008.size a := fun v32 v41 k0_hw14 => k0_hw14
def k0_off21 (k0_t5 : Fin k0_t5_loop.trips) (k0_t7 : Fin k0_t7_loop.trips) : Fin 2 → Nat :=
  let c2_i32_27 : BitVec 32 := 2#32
  let c0_i32_8 : BitVec 32 := 0#32
  let c1_i32_10 : BitVec 32 := 1#32
  let arg9 : BitVec 32 := Scf.iv c0_i32_8 c1_i32_10 k0_t5
  let v20 : BitVec 32 := Scalar.muli c2_i32_27 arg9
  let c1_i32_28 : BitVec 32 := 1#32
  let v21 : BitVec 32 := Scalar.addi v20 c1_i32_28
  let c8_i32_39 : BitVec 32 := 8#32
  let v30 : BitVec 32 := Scalar.muli v21 c8_i32_39
  let c0_i32_32 : BitVec 32 := 0#32
  let c1_i32_34 : BitVec 32 := 1#32
  let arg10 : BitVec 32 := Scf.iv c0_i32_32 c1_i32_34 k0_t7
  let v31 : BitVec 32 := Scalar.addi v30 arg10
  let v44 : Index := Scalar.indexCast v31
  let c32 : Index := 32#32
  ![v44.toNat, 32]

def k0_chk15 (v32 : IVec S16 32) (v45 : IVec S16 32) : Prop :=
  (∀ a x, ((![v32, v45] : Fin 2 → IVec S16 32) a x).toNat < S8x5008.size a)
theorem k0_idx15_inb : ∀ (v32 : IVec S16 32) (v45 : IVec S16 32) (k0_hw15 : k0_chk15 v32 v45), ∀ a x, ((![v32, v45] : Fin 2 → IVec S16 32) a x).toNat < S8x5008.size a := fun v32 v45 k0_hw15 => k0_hw15
def k0_off22 (k0_t5 : Fin k0_t5_loop.trips) (k0_t7 : Fin k0_t7_loop.trips) : Fin 2 → Nat :=
  let c2_i32_27 : BitVec 32 := 2#32
  let c0_i32_8 : BitVec 32 := 0#32
  let c1_i32_10 : BitVec 32 := 1#32
  let arg9 : BitVec 32 := Scf.iv c0_i32_8 c1_i32_10 k0_t5
  let v20 : BitVec 32 := Scalar.muli c2_i32_27 arg9
  let c1_i32_28 : BitVec 32 := 1#32
  let v21 : BitVec 32 := Scalar.addi v20 c1_i32_28
  let c8_i32_39 : BitVec 32 := 8#32
  let v30 : BitVec 32 := Scalar.muli v21 c8_i32_39
  let c0_i32_32 : BitVec 32 := 0#32
  let c1_i32_34 : BitVec 32 := 1#32
  let arg10 : BitVec 32 := Scf.iv c0_i32_32 c1_i32_34 k0_t7
  let v31 : BitVec 32 := Scalar.addi v30 arg10
  let v48 : Index := Scalar.indexCast v31
  let c48 : Index := 48#32
  ![v48.toNat, 48]

def k0_chk16 (v32 : IVec S16 32) (v49 : IVec S16 32) : Prop :=
  (∀ a x, ((![v32, v49] : Fin 2 → IVec S16 32) a x).toNat < S8x5008.size a)
theorem k0_idx16_inb : ∀ (v32 : IVec S16 32) (v49 : IVec S16 32) (k0_hw16 : k0_chk16 v32 v49), ∀ a x, ((![v32, v49] : Fin 2 → IVec S16 32) a x).toNat < S8x5008.size a := fun v32 v49 k0_hw16 => k0_hw16
def k0_off23 (i : grid0.Coords) (k0_t5 : Fin k0_t5_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_27 : BitVec 32 := 2#32
  let c0_i32_8 : BitVec 32 := 0#32
  let c1_i32_10 : BitVec 32 := 1#32
  let arg9 : BitVec 32 := Scf.iv c0_i32_8 c1_i32_10 k0_t5
  let v20 : BitVec 32 := Scalar.muli c2_i32_27 arg9
  let c1_i32_28 : BitVec 32 := 1#32
  let v21 : BitVec 32 := Scalar.addi v20 c1_i32_28
  let c8_i32_36 : BitVec 32 := 8#32
  let v26 : BitVec 32 := Scalar.muli v21 c8_i32_36
  let v27 : BitVec 32 := Scalar.addi v2 v26
  let c0_i32_37 : BitVec 32 := 0#32
  ![v27.toNat, 0]
def k0_off24 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x5008 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5008x800 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S800x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x128 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S512x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mean" => some ((1 / 50 : ℝ) : EReal)
  | _ => none
-- ==== ReferenceIdeal.lean ====
abbrev S4096x50 : Shape := ⟨2, ![4096, 50]⟩
abbrev S5002x800 : Shape := ⟨2, ![5002, 800]⟩
abbrev S800x2048 : Shape := ⟨2, ![800, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x800 : Shape := ⟨3, ![4096, 50, 800]⟩
abbrev S4096x800 : Shape := ⟨2, ![4096, 800]⟩
abbrev S4096x2048 : Shape := ⟨2, ![4096, 2048]⟩
abbrev S1x2048 : Shape := ⟨2, ![1, 2048]⟩
abbrev S4096x1024 : Shape := ⟨2, ![4096, 1024]⟩
abbrev S1x1024 : Shape := ⟨2, ![1, 1024]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S4096x2 : Shape := ⟨2, ![4096, 2]⟩
abbrev S1x2 : Shape := ⟨2, ![1, 2]⟩

abbrev nBuf : Space → Nat
  | .hbm => 72
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S5002x800, .f32⟩
  | .hbm, ⟨2, _⟩ => ⟨S800x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256x2, .f32⟩
  | .hbm, ⟨11, _⟩ => ⟨S2, .f32⟩
  | .hbm, ⟨12, _⟩ => ⟨S_, .i32⟩
  | .hbm, ⟨13, _⟩ => ⟨S4096x50, .i32⟩
  | .hbm, ⟨14, _⟩ => ⟨S4096x50, .i1⟩
  | .hbm, ⟨15, _⟩ => ⟨S_, .i32⟩
  | .hbm, ⟨16, _⟩ => ⟨S4096x50, .i32⟩
  | .hbm, ⟨17, _⟩ => ⟨S4096x50, .i32⟩
  | .hbm, ⟨18, _⟩ => ⟨S4096x50, .i32⟩
  | .hbm, ⟨19, _⟩ => ⟨S4096x50x1, .i32⟩
  | .hbm, ⟨20, _⟩ => ⟨S1, .i32⟩
  | .hbm, ⟨21, _⟩ => ⟨S_, .i32⟩
  | .hbm, ⟨22, _⟩ => ⟨S4096x50x1, .i32⟩
  | .hbm, ⟨23, _⟩ => ⟨S4096x50x1, .i1⟩
  | .hbm, ⟨24, _⟩ => ⟨S1x1x1, .i32⟩
  | .hbm, ⟨25, _⟩ => ⟨S4096x50x1, .i32⟩
  | .hbm, ⟨26, _⟩ => ⟨S4096x50x1, .i1⟩
  | .hbm, ⟨27, _⟩ => ⟨S4096x50x1, .i1⟩
  | .hbm, ⟨28, _⟩ => ⟨S_, .i1⟩
  | .hbm, ⟨29, _⟩ => ⟨S4096x50, .i1⟩
  | .hbm, ⟨30, _⟩ => ⟨S4096x50x800, .f32⟩
  | .hbm, ⟨31, _⟩ => ⟨S4096x50x800, .i1⟩
  | .hbm, ⟨32, _⟩ => ⟨S_, .f32⟩
  | .hbm, ⟨33, _⟩ => ⟨S4096x50x800, .f32⟩
  | .hbm, ⟨34, _⟩ => ⟨S4096x50x800, .f32⟩
  | .hbm, ⟨35, _⟩ => ⟨S_, .f32⟩
  | .hbm, ⟨36, _⟩ => ⟨S4096x800, .f32⟩
  | .hbm, ⟨37, _⟩ => ⟨S_, .f32⟩
  | .hbm, ⟨38, _⟩ => ⟨S4096x800, .f32⟩
  | .hbm, ⟨39, _⟩ => ⟨S4096x800, .f32⟩
  | .hbm, ⟨40, _⟩ => ⟨S4096x2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x512, .f32⟩
  | .hbm, ⟨55, _⟩ => ⟨S1x512, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S4096x512, .f32⟩
  | .hbm, ⟨60, _⟩ => ⟨S4096x512, .f32⟩
  | .hbm, ⟨61, _⟩ => ⟨S4096x256, .f32⟩
  | .hbm, ⟨62, _⟩ => ⟨S1x256, .f32⟩
  | .hbm, ⟨63, _⟩ => ⟨S4096x256, .f32⟩
  | .hbm, ⟨64, _⟩ => ⟨S4096x256, .f32⟩
  | .hbm, ⟨65, _⟩ => ⟨S_, .f32⟩
  | .hbm, ⟨66, _⟩ => ⟨S4096x256, .f32⟩
  | .hbm, ⟨67, _⟩ => ⟨S4096x256, .f32⟩
  | .hbm, ⟨68, _⟩ => ⟨S4096x2, .f32⟩
  | .hbm, ⟨69, _⟩ => ⟨S1x2, .f32⟩
  | .hbm, ⟨70, _⟩ => ⟨S4096x2, .f32⟩
  | .hbm, ⟨71, _⟩ => ⟨S4096x2, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_cst_0 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_call1_cst : Ref sig .tc := ⟨.hbm, 44, rfl⟩
abbrev main_call1_v0 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_call2_cst : Ref sig .tc := ⟨.hbm, 51, rfl⟩
abbrev main_call2_v0 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_call3_cst : Ref sig .tc := ⟨.hbm, 58, rfl⟩
abbrev main_call3_v0 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_call4_cst : Ref sig .tc := ⟨.hbm, 65, rfl⟩
abbrev main_call4_v0 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Proof.Rows.lean ====
/-
  One row of the count matrix, as the scatter stores leave it. A scatter of sixteen lanes that all name one row changes that row
  only, and in it a column by the lanes naming that column: an adding scatter of the scan counts accumulates them (`colAdd`), a
  clearing scatter of zeros writes zero. Over any floats.
-/
module

public import proofs.«01_k».proof.Proof.Gen.KernelIdeal.Skeleton
public import Idealize.ShloMosaic.Lib.ValueIdxCore
public import Idealize.ShloMosaic.Lib.Pipeline.Value

@[expose] public section

noncomputable section

namespace Cert.Proof.Counts

open Cert.KernelIdeal Cert.KernelIdeal.Gen
open Idealize.ShloMosaic
open Idealize.ShloMosaic.ValueIdx (ix2 ix1)

variable {F : FTy → Type} [FloatOps F] [Named F]

/-- A chunk of sixteen index words. -/
abbrev V16 : Type := IVec S16 32

/-- Lane `k` of a chunk. -/
abbrev ln (k : Fin 16) : S16.Idx := Shape.ofLane (d := ![16]) k

/-- The lanes that are the last of their word in the chunk. -/
def msk (v : V16) : IVec S16 1 := (scanCount (broadcast S16 1#1) v).1

/-- Each lane's running count of its word, as a float. -/
def cnts (v : V16) : FVec F S16 .f32 := sitofp .f32 (scanCount (broadcast S16 1#1) v).2

/-- The float zero. -/
def zf : F .f32 := Scalar.ofBits .f32 0x00000000#32

/-- Column `x` of a row holding `y`, after the adding scatter of chunk `v`. -/
def colAdd (v : V16) (x : ℕ) (y : F .f32) : F .f32 :=
  (List.finRange 16).foldl (fun y k => if msk v (ln k) = 1 then (if (v (ln k)).toNat = x then FloatOps.idxAddf y (cnts v (ln k)) else y) else y) y

/-- A scatter whose lanes all name row `r`, read at an element: its row is unchanged or accumulates the lanes naming its column. -/
theorem storeIdx_row (g : Vec F S8x5008 .f32) (r : BitVec 32) (v : V16) (c : FVec F S16 .f32) (m : IVec S16 1) (add : Bool)
    (h : ∀ a x, ((![broadcast S16 r, v] : Fin 2 → IVec S16 32) a x).toNat < S8x5008.size a) (j : S8x5008.Idx) :
    storeIdx (F := F) (s := S8x5008) (e := .f32) (d := ![16]) g ![broadcast S16 r, v] c m add h j
      = if (j 0).val = r.toNat then
          (List.finRange 16).foldl (fun y k => if m (ln k) = 1 then (if (v (ln k)).toNat = (j 1).val then (if add then FloatOps.idxAddf y (c (ln k)) else c (ln k)) else y) else y) (g j)
        else g j := by
  have key : ∀ l : List (Fin 16), ∀ g : Vec F S8x5008 .f32, (List.foldl (fun (g : Vec F S8x5008 .f32) (k : Fin 16) =>
      if m (ln k) = 1 then
        (fun j : S8x5008.Idx => if (∀ a, (j a).val = (idxAt ![broadcast S16 r, v] h (ln k) a).val) then
          (if add then (FloatOps.idxAddf (g (idxAt ![broadcast S16 r, v] h (ln k))) (c (ln k)) : F .f32) else c (ln k)) else g j)
      else g) g l) j
        = if (j 0).val = r.toNat then
            l.foldl (fun y k => if m (ln k) = 1 then (if (v (ln k)).toNat = (j 1).val then (if add then FloatOps.idxAddf y (c (ln k)) else c (ln k)) else y) else y) (g j)
          else g j := by
    intro l
    induction l with
    | nil => intro g; simp only [List.foldl_nil, ite_self]
    | cons k l ih =>
      intro g
      rw [List.foldl_cons, List.foldl_cons, ih]
      by_cases hm : m (ln k) = 1
      · rw [if_pos hm, if_pos hm]
        by_cases h0 : (j 0).val = r.toNat
        · rw [if_pos h0, if_pos h0]
          by_cases h1 : (v (ln k)).toNat = (j 1).val
          · have hi : idxAt ![broadcast S16 r, v] h (ln k) = j := by
              funext a; apply Fin.ext
              match a with
              | ⟨0, _⟩ => exact h0.symm
              | ⟨1, _⟩ => exact h1
            rw [if_pos h1, if_pos (fun a => by rw [hi]), hi]
          · rw [if_neg h1, if_neg (fun hc => h1 (hc 1).symm)]
        · rw [if_neg h0, if_neg h0, if_neg (fun hc => h0 (hc 0))]
      · rw [if_neg hm, if_neg hm]
  refine Eq.trans ?_ (key (List.finRange 16) g)
  unfold storeIdx
  refine congrArg (fun f : Vec F S8x5008 .f32 => f j) ?_
  refine congrArg (fun s : Vec F S8x5008 .f32 → Fin 16 → Vec F S8x5008 .f32 => List.foldl s g (List.finRange 16)) ?_
  funext g k
  by_cases hm : m (ln k) = 1
  · rw [if_pos hm, if_pos hm]
    funext j'
    by_cases hc : ∀ a, (j' a).val = (idxAt ![broadcast S16 r, v] h (ln k) a).val
    · refine (@if_pos _ _ hc _ _ _).trans (Eq.trans ?_ (@if_pos _ _ hc _ _ _).symm)
      cases add <;> rfl
    · exact (@if_neg _ _ hc _ _ _).trans (@if_neg _ _ hc _ _ _).symm
  · rw [if_neg hm, if_neg hm]

/-- The adding scatter of chunk `v` at row `r`, read at an element. -/
theorem storeIdx_add (g : Vec F S8x5008 .f32) (r : BitVec 32) (v : V16)
    (h : ∀ a x, ((![broadcast S16 r, v] : Fin 2 → IVec S16 32) a x).toNat < S8x5008.size a) (j : S8x5008.Idx) :
    storeIdx (F := F) (s := S8x5008) (e := .f32) (d := ![16]) g ![broadcast S16 r, v] (cnts v) (msk v) true h j
      = if (j 0).val = r.toNat then colAdd v (j 1).val (g j) else g j :=
  storeIdx_row g r v (cnts v) (msk v) true h j

/-- The clearing scatter of chunk `v` at row `r`, read at an element. -/
theorem storeIdx_clear (g : Vec F S8x5008 .f32) (r : BitVec 32) (v : V16)
    (h : ∀ a x, ((![broadcast S16 r, v] : Fin 2 → IVec S16 32) a x).toNat < S8x5008.size a) (j : S8x5008.Idx) :
    storeIdx (F := F) (s := S8x5008) (e := .f32) (d := ![16]) g ![broadcast S16 r, v] (fun _ => zf) (fun _ => 1#1) false h j
      = if (j 0).val = r.toNat ∧ ∃ k : Fin 16, (v (ln k)).toNat = (j 1).val then zf else g j := by
  have key : ∀ l : List (Fin 16), ∀ y : F .f32, l.foldl (fun (y : F .f32) k => if (fun _ : S16.Idx => 1#1) (ln k) = 1 then (if (v (ln k)).toNat = (j 1).val then (if false then FloatOps.idxAddf y (zf : F .f32) else zf) else y) else y) y
      = if ∃ k ∈ l, (v (ln k)).toNat = (j 1).val then zf else y := by
    intro l
    induction l with
    | nil => intro y; simp
    | cons k l ih =>
      intro y
      rw [List.foldl_cons, ih]
      by_cases hl : ∃ k ∈ l, (v (ln k)).toNat = (j 1).val
      · obtain ⟨k', hk', he⟩ := hl
        rw [if_pos ⟨k', hk', he⟩, if_pos ⟨k', List.mem_cons_of_mem _ hk', he⟩]
      · rw [if_neg hl]
        by_cases h1 : (v (ln k)).toNat = (j 1).val
        · rw [if_pos (show (fun _ : S16.Idx => 1#1) (ln k) = 1 from rfl), if_pos h1, if_neg Bool.false_ne_true]; exact (if_pos ⟨k, List.mem_cons_self, h1⟩).symm
        · rw [if_pos (show (fun _ : S16.Idx => 1#1) (ln k) = 1 from rfl), if_neg h1, if_neg (fun hc => by
            obtain ⟨k', hk', he⟩ := hc
            rcases List.mem_cons.mp hk' with rfl | hk'
            · exact h1 he
            · exact hl ⟨k', hk', he⟩)]
  rw [storeIdx_row]
  by_cases h0 : (j 0).val = r.toNat
  · rw [if_pos h0]
    refine (key (List.finRange 16) (g j)).trans ?_
    simp only [List.mem_finRange, true_and, h0]
  · rw [if_neg h0, if_neg (fun hc => h0 hc.1)]

/-- A column no lane of the chunk names is left alone. -/
theorem colAdd_none (v : V16) (x : ℕ) (y : F .f32) (h : ¬ ∃ k : Fin 16, (v (ln k)).toNat = x) : colAdd v x y = y := by
  unfold colAdd
  generalize List.finRange 16 = l
  induction l with
  | nil => rfl
  | cons k l ih =>
    rw [List.foldl_cons, if_neg (fun hc => h ⟨k, hc⟩), ite_self, ih]

/-- A row's column `x`, built from zero by the four chunks `w` of its index row. -/
def rowVal (w : Fin 4 → V16) (x : ℕ) : F .f32 := colAdd (w 3) x (colAdd (w 2) x (colAdd (w 1) x (colAdd (w 0) x zf)))

theorem rowVal_none (w : Fin 4 → V16) (x : ℕ) (h : ∀ q : Fin 4, ¬ ∃ k : Fin 16, (w q (ln k)).toNat = x) : (rowVal w x : F .f32) = zf := by
  unfold rowVal
  rw [colAdd_none _ _ _ (h 3), colAdd_none _ _ _ (h 2), colAdd_none _ _ _ (h 1), colAdd_none _ _ _ (h 0)]

/-- The index words of chunk `v` at row `r` are inside the block. -/
abbrev Inb (r : BitVec 32) (v : V16) : Prop := ∀ a x, ((![broadcast S16 r, v] : Fin 2 → IVec S16 32) a x).toNat < S8x5008.size a

theorem inb_of (r : BitVec 32) (v : V16) (hr : r.toNat < 8) (hv : ∀ x, (v x).toNat < 5008) : Inb r v := fun a x => by
  match a with
  | ⟨0, _⟩ => exact hr
  | ⟨1, _⟩ => exact hv x

/-- One adding scatter. -/
abbrev sadd (g : Vec F S8x5008 .f32) (r : BitVec 32) (v : V16) (h : Inb r v) : Vec F S8x5008 .f32 :=
  storeIdx (F := F) (s := S8x5008) (e := .f32) (d := ![16]) g ![broadcast S16 r, v] (cnts v) (msk v) true h
/-- One clearing scatter. -/
abbrev sclr (g : Vec F S8x5008 .f32) (r : BitVec 32) (v : V16) (h : Inb r v) : Vec F S8x5008 .f32 :=
  storeIdx (F := F) (s := S8x5008) (e := .f32) (d := ![16]) g ![broadcast S16 r, v] (fun _ => zf) (fun _ => 1#1) false h

/-- The four adding scatters of a row over a row of zeros write the row's values. -/
theorem addRow_apply (g : Vec F S8x5008 .f32) (r : BitVec 32) (w : Fin 4 → V16) (h0 : Inb r (w 0)) (h1 : Inb r (w 1)) (h2 : Inb r (w 2)) (h3 : Inb r (w 3))
    (hz : ∀ j : S8x5008.Idx, (j 0).val = r.toNat → g j = zf) (j : S8x5008.Idx) :
    sadd (sadd (sadd (sadd g r (w 0) h0) r (w 1) h1) r (w 2) h2) r (w 3) h3 j = if (j 0).val = r.toNat then rowVal w (j 1).val else g j := by
  simp only [sadd, storeIdx_add]
  by_cases h : (j 0).val = r.toNat
  · simp only [if_pos h, hz j h, rowVal]
  · simp only [if_neg h]

/-- The four clearing scatters of a row holding the values of the same index row leave zeros. -/
theorem clrRow_apply (g : Vec F S8x5008 .f32) (r : BitVec 32) (w : Fin 4 → V16) (h0 : Inb r (w 0)) (h1 : Inb r (w 1)) (h2 : Inb r (w 2)) (h3 : Inb r (w 3))
    (hz : ∀ j : S8x5008.Idx, (j 0).val = r.toNat → g j = rowVal w (j 1).val) (j : S8x5008.Idx) :
    sclr (sclr (sclr (sclr g r (w 0) h0) r (w 1) h1) r (w 2) h2) r (w 3) h3 j = if (j 0).val = r.toNat then zf else g j := by
  simp only [sclr, storeIdx_clear]
  by_cases h : (j 0).val = r.toNat
  · simp only [h, true_and, if_true]
    by_cases e3 : ∃ k : Fin 16, (w 3 (ln k)).toNat = (j 1).val
    · rw [if_pos e3]
    · rw [if_neg e3]
      by_cases e2 : ∃ k : Fin 16, (w 2 (ln k)).toNat = (j 1).val
      · rw [if_pos e2]
      · rw [if_neg e2]
        by_cases e1 : ∃ k : Fin 16, (w 1 (ln k)).toNat = (j 1).val
        · rw [if_pos e1]
        · rw [if_neg e1]
          by_cases e0 : ∃ k : Fin 16, (w 0 (ln k)).toNat = (j 1).val
          · rw [if_pos e0]
          · rw [if_neg e0, hz j h]
            refine rowVal_none w _ fun q => ?_
            match q with
            | ⟨0, _⟩ => exact e0
            | ⟨1, _⟩ => exact e1
            | ⟨2, _⟩ => exact e2
            | ⟨3, _⟩ => exact e3
  · simp only [h, false_and, if_false]

/-- Chunk `q` of row `r` of an index block. -/
def chunk {n : ℕ} (I : (⟨2, ![n, 64]⟩ : Shape).Idx → BitVec 32) (r : Fin n) (q : Fin 4) : V16 := fun x =>
  I (ix2 r ⟨16 * q.val + (x 0).val, by have : (x 0).val < 16 := (x 0).isLt; have := q.isLt; omega⟩)

/-- The chunk a one-row load of sixteen words reads. -/
theorem load_chunk (I : S128x64.Idx → BitVec 32) (off : Fin 2 → ℕ) (inb : ∀ a, off a + S1x16.size a ≤ S128x64.size a) (r : Fin 128) (q : Fin 4)
    (hr : off 0 = r.val) (hq : off 1 = 16 * q.val) :
    (shapeCast S16 (fun x => I ((Rect.unit (s := S128x64) off S1x16.size inb).emb x)) shapeCasts_S1x16_S16 : V16) = chunk I r q := by
  funext x
  refine (shapeCast_dropUnit_apply ![16] (fun x => I ((Rect.unit (s := S128x64) off S1x16.size inb).emb x)) shapeCasts_S1x16_S16 x).trans ?_
  unfold chunk
  refine congrArg I (funext fun a => Fin.ext ?_)
  match a with
  | ⟨0, _⟩ =>
    show off 0 + 1 * (0 : ℕ) = r.val
    omega
  | ⟨1, _⟩ =>
    show off 1 + 1 * (x 0).val = 16 * q.val + (x 0).val
    omega

end Cert.Proof.Counts

end
-- ==== Proof.Base.lean ====
/-
  The program as the launch theorem sees it, and the resource algebra of the proof: the handshakes' rounds library, the
  rounds library the TensorCore call's staging is funded from, and the local transfers' counters.
-/
module

public import proofs.«01_k».proof.Defs
public import proofs.«01_k».proof.Proof.Rows
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal.Launch
public import proofs.«01_k».proof.Proof.Gen.KernelIdeal.Skeleton

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The staging rounds. -/
abbrev UP : Type := UR sig nD τ
abbrev UU : Type := UH × (UP × Counters)

abbrev MM (F : FTy → Type) : Type := MT nD τ sig (HIx 1) (Elt F) ℕ UU ℕ
local notation "𝕄" => MT nD τ sig (HIx 1) (Elt F) ℕ UU ℕ

abbrev EH : Emb UH (MT nD τ sig (HIx 1) (Elt F) ℕ UU ℕ) := embL
abbrev ER : Emb (UP × Counters) (MT nD τ sig (HIx 1) (Elt F) ℕ UU ℕ) := embR
abbrev EP : Emb UP (MT nD τ sig (HIx 1) (Elt F) ℕ UU ℕ) := (Emb.inl : Emb UP (UP × Counters)).trans ER

instance EP_landsIn : (EP (F := F)).LandsIn (upEmb : UEmb _ 𝕄) := by unfold EP ER; infer_instance

end Cert.Proof.Counts

end
-- ==== Proof.LayersBody.lean ====
/-
  The TensorCore call's kernel body: from its thirteen staging buffers, twelve read, to the thirteenth at the layers' output.
-/
module

public import proofs.«01_k».proof.Proof.Base
public import proofs.«01_k».proof.Proof.Gen.KernelIdeal.Points
public import Idealize.ShloMosaic.Lib.Pipeline.FrameBody

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.TcCoe

variable {F : FTy → Type} [FloatOps F] [Named F]

local notation "𝕄" => MT nD τ sig (HIx 1) (Elt F) ℕ UU ℕ

/-- A whole buffer's rectangle is every index in place. -/
theorem emb_zero {s : Shape} (off : Fin s.rank → ℕ) (h0 : ∀ a, off a = 0) (inb : ∀ a, off a + s.size a ≤ s.size a) (x : s.Idx) :
    (Rect.unit (s := s) off s.size inb).emb x = x := by
  funext a
  refine Fin.ext ?_
  show off a + 1 * (x a).val = (x a).val
  rw [h0 a]; omega

theorem off00 : ∀ a : Fin 2, (![0, 0] : Fin 2 → ℕ) a = 0 := by decide

variable (c : Dev nD)

section Rules

variable {s : Shape} {e : EltTy} {b : Memref sig .tc .vmem s e} {G : s.Idx → Elt F e} {α : Type} {Q : α → sProp (MT nD τ sig (HIx 1) (Elt F) ℕ UU ℕ)}

theorem wp_owns_load {off : Fin s.rank → ℕ} {inb : ∀ a, off a + s.size a ≤ s.size a} {hl : b.view.LoadsAt (Rect.unit (s := s) off s.size inb).toLoadRect}
    {k : (s.Idx → Elt F e) → Prog (TpuEff nD τ sig (Elt F) Λ₀ .tc) α} (h0 : ∀ a, off a = 0) :
    (owns (c : Thread nD τ) b fullShare G : sProp 𝕄) ⊢ iprop((owns (c : Thread nD τ) b fullShare G -∗ wp frame (wpE (defs₀ (F := F)) 𝒱₀ (c : Thread nD τ) none) Set.univ (k G) Q)
      -∗ wp frame (wpE (defs₀ (F := F)) 𝒱₀ (c : Thread nD τ) none) Set.univ (.op (.load b (Rect.unit (s := s) off s.size inb).toLoadRect hl) k) Q) := by
  unfold owns
  iintro ⟨%f, %hf, Hb⟩ Hk
  iapply (wp_load (defs := defs₀ (F := F)) 𝒱₀ (c : Thread nD τ) none Set.univ (m := b) (r := (Rect.unit (s := s) off s.size inb).toLoadRect) (S := b.view.set) (View.setOn_subset_set _ _)) $$ Hb
  iintro Hb
  rw [show b.view.readAt (Elt F) (Rect.unit (s := s) off s.size inb).toLoadRect f = G from
    (show b.view.readAt (Elt F) (Rect.unit (s := s) off s.size inb).toLoadRect f = fun x => b.view.read (Elt F) f ((Rect.unit (s := s) off s.size inb).emb x) from rfl).trans
      (funext fun x => by rw [emb_zero off h0 inb x, hf])]
  iapply Hk
  iexists f; isplitr; · ipureintro; exact hf
  iexact Hb

theorem wp_owns_store {off : Fin s.rank → ℕ} {inb : ∀ a, off a + s.size a ≤ s.size a} {w : s.Idx → Elt F e} {hx : (b.access (Rect.unit (s := s) off s.size inb)).Stores Finset.univ}
    {hm : Finset.univ = Finset.univ ∨ ∀ a, (Rect.unit (s := s) off s.size inb).stride a = 1} {k : PUnit → Prog (TpuEff nD τ sig (Elt F) Λ₀ .tc) α} (h0 : ∀ a, off a = 0) :
    (owns (c : Thread nD τ) b fullShare G : sProp 𝕄) ⊢ iprop((owns (c : Thread nD τ) b fullShare w -∗ wp frame (wpE (defs₀ (F := F)) 𝒱₀ (c : Thread nD τ) none) Set.univ (k ⟨⟩) Q)
      -∗ wp frame (wpE (defs₀ (F := F)) 𝒱₀ (c : Thread nD τ) none) Set.univ (.op (.store b (Rect.unit (s := s) off s.size inb) w Finset.univ hx hm) k) Q) := by
  unfold owns
  iintro ⟨%f, %hf, Hb⟩ Hk
  iapply (wp_store (defs := defs₀ (F := F)) 𝒱₀ (c : Thread nD τ) none Set.univ (m := b) (r := Rect.unit (s := s) off s.size inb) (S := b.view.set)
    ((View.setOn_subset_set _ _).trans (View.set_slice_subset (v := b.view) _))) $$ Hb
  iintro Hb
  iapply Hk
  iexists _
  isplitr
  swap; · iexact Hb
  ipureintro
  funext x
  have h := View.read_slice_write_emb (Val := Elt F) (v := b.view) (Rect.unit (s := s) off s.size inb) f w (Finset.mem_univ x)
  rw [emb_zero off h0 inb x] at h
  exact h

end Rules

/-- The layers' output block, from the twelve operands' blocks. -/
def outB (X0 : S512x5008.Idx → F .f32) (X1 : S5008x800.Idx → F .bf16) (X2 : S800x2048.Idx → F .bf16) (X3 : S1x2048.Idx → F .f32) (X4 : S2048x1024.Idx → F .bf16) (X5 : S1x1024.Idx → F .f32) (X6 : S1024x512.Idx → F .bf16) (X7 : S1x512.Idx → F .f32) (X8 : S512x256.Idx → F .bf16) (X9 : S1x256.Idx → F .f32) (X10 : S256x128.Idx → F .bf16) (X11 : S1x128.Idx → F .f32) : S512x128.Idx → F .f32 :=
  k1_pay1 (k1_pay2 X0 X1 X2 X3 X4 X5 X6 X7) X8 X9 X10 X11

set_option backward.isDefEq.respectTransparency.types false in
/-- The kernel body's run. -/
theorem tc_body (i : grid1.Coords) (M0 : Memref sig .tc .vmem S512x5008 .f32) (h0 : M0.IsWhole) (M1 : Memref sig .tc .vmem S5008x800 .bf16) (h1 : M1.IsWhole) (M2 : Memref sig .tc .vmem S800x2048 .bf16) (h2 : M2.IsWhole) (M3 : Memref sig .tc .vmem S1x2048 .f32) (h3 : M3.IsWhole) (M4 : Memref sig .tc .vmem S2048x1024 .bf16) (h4 : M4.IsWhole) (M5 : Memref sig .tc .vmem S1x1024 .f32) (h5 : M5.IsWhole) (M6 : Memref sig .tc .vmem S1024x512 .bf16) (h6 : M6.IsWhole) (M7 : Memref sig .tc .vmem S1x512 .f32) (h7 : M7.IsWhole) (M8 : Memref sig .tc .vmem S512x256 .bf16) (h8 : M8.IsWhole) (M9 : Memref sig .tc .vmem S1x256 .f32) (h9 : M9.IsWhole) (M10 : Memref sig .tc .vmem S256x128 .bf16) (h10 : M10.IsWhole) (M11 : Memref sig .tc .vmem S1x128 .f32) (h11 : M11.IsWhole) (M12 : Memref sig .tc .vmem S512x128 .f32) (h12 : M12.IsWhole)
    (X0 : S512x5008.Idx → F .f32) (X1 : S5008x800.Idx → F .bf16) (X2 : S800x2048.Idx → F .bf16) (X3 : S1x2048.Idx → F .f32) (X4 : S2048x1024.Idx → F .bf16) (X5 : S1x1024.Idx → F .f32) (X6 : S1024x512.Idx → F .bf16) (X7 : S1x512.Idx → F .f32) (X8 : S512x256.Idx → F .bf16) (X9 : S1x256.Idx → F .f32) (X10 : S256x128.Idx → F .bf16) (X11 : S1x128.Idx → F .f32) (X12 : S512x128.Idx → F .f32)
    (Q : PUnit → sProp (MT nD τ sig (HIx 1) (Elt F) ℕ UU ℕ)) :
    (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare (outB X0 X1 X2 X3 X4 X5 X6 X7 X8 X9 X10 X11)) -∗ Q ⟨⟩)) : sProp 𝕄)
      ⊢ wp frame (wpE (defs₀ (F := F)) 𝒱₀ (c : Thread nD τ) none) Set.univ (cc1__fused_body (F := F) i M0 h0 M1 h1 M2 h2 M3 h3 M4 h4 M5 h5 M6 h6 M7 h7 M8 h8 M9 h9 M10 h10 M11 h11 M12 h12) Q := by
  simp only [cc1__fused_body_eq_skeleton]
  unfold cc1__fused_body_skel
  simp only [k1_part1_eq_skeleton]
  unfold k1_part1_skel
  simp only [Prog.lift, Prog.bind_op, Prog.bind_ret, Prog.pure_eq_ret]
  iintro ⟨H0, H1, H2, H3, H4, H5, H6, H7, H8, H9, H10, H11, H12, Hk⟩
  iapply (wp_owns_load (F := F) c (b := M0) (G := X0) off00) $$ H0
  iintro H0
  iapply (wp_owns_load (F := F) c (b := M1) (G := X1) off00) $$ H1
  iintro H1
  iapply (wp_owns_load (F := F) c (b := M2) (G := X2) off00) $$ H2
  iintro H2
  iapply (wp_owns_load (F := F) c (b := M3) (G := X3) off00) $$ H3
  iintro H3
  iapply (wp_owns_load (F := F) c (b := M4) (G := X4) off00) $$ H4
  iintro H4
  iapply (wp_owns_load (F := F) c (b := M5) (G := X5) off00) $$ H5
  iintro H5
  iapply (wp_owns_load (F := F) c (b := M6) (G := X6) off00) $$ H6
  iintro H6
  iapply (wp_owns_load (F := F) c (b := M7) (G := X7) off00) $$ H7
  iintro H7
  iapply (wp_owns_load (F := F) c (b := M8) (G := X8) off00) $$ H8
  iintro H8
  iapply (wp_owns_load (F := F) c (b := M9) (G := X9) off00) $$ H9
  iintro H9
  iapply (wp_owns_load (F := F) c (b := M10) (G := X10) off00) $$ H10
  iintro H10
  iapply (wp_owns_load (F := F) c (b := M11) (G := X11) off00) $$ H11
  iintro H11
  iapply (wp_owns_load (F := F) c (b := M12) (G := X12) off00) $$ H12
  iintro H12
  iapply (wp_owns_store (F := F) c (b := M12) (G := X12) off00) $$ H12
  iintro H12
  rw [wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Proof.Counts

end
-- ==== Proof.Held.lean ====
/-
  A tile's buffer held whole, at what its view reads: the steps of a tile's body on it (a load of one rectangle, a store of one
  rectangle, a scatter store), and the step that reads one chunk of indices and scatters by it.
-/
module

public import proofs.«01_k».proof.Proof.Base

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- A tile's buffer held whole, reading `G` through its view. -/
def hd {s : Shape} {e : EltTy} (d : Dev nD) (c : Fin τ.nSC) (j : Fin τ.nSub) (b : Memref sig .scVector .vmem s e) (G : s.Idx → Elt F e) : sProp 𝕄 :=
  iprop(∃ f, ⌜b.view.read (Elt F) f = G⌝ ∗ b.view.loc (V d c j) ↦[b.view.set]{fullShare} f)

variable (d : Dev nD) (c : Fin τ.nSC) (j : Fin τ.nSub)

section Rules

variable {s : Shape} {e : EltTy} {b : Memref sig .scVector .vmem s e} {G : s.Idx → Elt F e} {α : Type} {Q : α → sProp (MT nD τ sig (HIx 1) (Elt F) ℕ UU ℕ)}

theorem wp_hd_load {r : Rect s} {hl : b.view.LoadsAt r.toLoadRect} {k : (r.toLoadRect.shape.Idx → Elt F e) → Prog (TpuEff nD τ sig (Elt F) Λ₀ (.scVector c j)) α} :
    (hd d c j b G : sProp 𝕄) ⊢ iprop((hd d c j b G -∗ wp frame (wpE (defs₀ (F := F)) 𝒱₀ (V d c j) none) Set.univ (k (fun x => G (r.emb x))) Q)
      -∗ wp frame (wpE (defs₀ (F := F)) 𝒱₀ (V d c j) none) Set.univ (.op (.load b r.toLoadRect hl) k) Q) := by
  unfold hd
  iintro ⟨%f, %hf, Hb⟩ Hk
  iapply (wp_load (defs := defs₀ (F := F)) 𝒱₀ (V d c j) none Set.univ (m := b) (r := r.toLoadRect) (S := b.view.set) (View.setOn_subset_set _ _)) $$ Hb
  iintro Hb
  rw [show b.view.readAt (Elt F) r.toLoadRect f = fun x => G (r.emb x) from by subst hf; rfl]
  iapply Hk
  iexists f; isplitr; · ipureintro; exact hf
  iexact Hb

theorem wp_hd_store {r : Rect s} {w : r.shape.Idx → Elt F e} {hx : (b.access r).Stores Finset.univ} {hm : Finset.univ = Finset.univ ∨ ∀ a, r.stride a = 1}
    {k : PUnit → Prog (TpuEff nD τ sig (Elt F) Λ₀ (.scVector c j)) α} (G' : s.Idx → Elt F e)
    (h₁ : ∀ x, G' (r.emb x) = w x) (h₂ : ∀ y, y ∉ r.set → G' y = G y) :
    (hd d c j b G : sProp 𝕄) ⊢ iprop((hd d c j b G' -∗ wp frame (wpE (defs₀ (F := F)) 𝒱₀ (V d c j) none) Set.univ (k ⟨⟩) Q)
      -∗ wp frame (wpE (defs₀ (F := F)) 𝒱₀ (V d c j) none) Set.univ (.op (.store b r w Finset.univ hx hm) k) Q) := by
  unfold hd
  iintro ⟨%f, %hf, Hb⟩ Hk
  iapply (wp_store (defs := defs₀ (F := F)) 𝒱₀ (V d c j) none Set.univ (m := b) (r := r) (S := b.view.set)
    ((View.setOn_subset_set _ _).trans (View.set_slice_subset (v := b.view) r))) $$ Hb
  iintro Hb
  iapply Hk
  iexists _; isplitr
  swap; · iexact Hb
  ipureintro
  funext y
  by_cases hy : y ∈ r.set
  · have hy' := hy
    rw [← Rect.map_emb_univ] at hy'
    obtain ⟨x, -, rfl⟩ := Finset.mem_map.mp hy'
    rw [h₁ x]
    exact View.read_slice_write_emb r f w (Finset.mem_univ x)
  · rw [h₂ y hy, ← hf]
    exact View.read_slice_write_of_not_mem r f w Finset.univ (by rw [Rect.map_emb_univ]; exact hy)

theorem set_whole_access : (b.access (.whole s)).set = b.view.set := by
  rw [View.set_slice, Rect.set_whole]; rfl

theorem read_whole_access (f : b.view.ty.Contents (Elt F)) : (b.access (.whole s)).read (Elt F) f = b.view.read (Elt F) f := by
  funext x
  show _root_.cast _ (f (b.view.emb ((Rect.whole s).emb x))) = _root_.cast _ (f (b.view.emb x))
  rw [Rect.emb_whole_apply]

theorem wp_hd_scatter {d₁ : Fin 1 → Nat} {idxs : Fin s.rank → IVec ⟨1, d₁⟩ 32} {v : Vec F ⟨1, d₁⟩ e}
    {mask : IVec ⟨1, d₁⟩ 1} {add : Bool} {h : ∀ a x, (idxs a x).toNat < s.size a} {hs : (b.access (.whole s)).Stores Finset.univ}
    {k : PUnit → Prog (TpuEff nD τ sig (Elt F) Λ₀ (.scVector c j)) α} :
    (hd d c j b G : sProp 𝕄) ⊢ iprop((hd d c j b (storeIdx (F := F) G idxs v mask add h) -∗ wp frame (wpE (defs₀ (F := F)) 𝒱₀ (V d c j) none) Set.univ (k ⟨⟩) Q)
      -∗ wp frame (wpE (defs₀ (F := F)) 𝒱₀ (V d c j) none) Set.univ (SparseCore.vectorStoreIdx b idxs v mask add h hs >>= k) Q) := by
  unfold hd
  iintro ⟨%f, %hf, Hb⟩ Hk
  ihave Hb' := (Entails.of_eq (congrArg (fun S => (b.view.loc (V d c j) ↦[S]{fullShare} f : sProp 𝕄)) (set_whole_access (b := b)).symm)) $$ Hb
  iapply (SparseCore.wp_vectorStoreIdx (defs := defs₀ (F := F)) (c := V d c j) (𝒱 := 𝒱₀) (bd := none) (E := Set.univ) (base := b) (f := f)) $$ Hb'
  iintro Hb
  iapply Hk
  iexists _; isplitr
  swap
  · iapply (Entails.of_eq (congrArg (fun S => (b.view.loc (V d c j) ↦[S]{fullShare} _ : sProp 𝕄)) (set_whole_access (b := b)))); iexact Hb
  ipureintro
  rw [← read_whole_access, View.read_write_univ, read_whole_access, hf]

end Rules

end Cert.Proof.Counts

end
-- ==== Proof.Trip.lean ====
/-
  One trip of a tile's row loops: the row's four chunks scattered, after the row two groups earlier was cleared. A block held by
  `mix` has its rows below `k` at the new group's counts and the others at the previous group's.
-/
module

public import proofs.«01_k».proof.Proof.Held

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-! ## The values -/

/-- Column `x` of the counts of row `r` of a tile's index block. -/
def rv (I : S128x64.Idx → BitVec 32) (r x : ℕ) : F .f32 := if h : r < 128 then rowVal (fun q => chunk I ⟨r, h⟩ q) x else zf

theorem rv_of (I : S128x64.Idx → BitVec 32) (r : Fin 128) (x : ℕ) : (rv I r.val x : F .f32) = rowVal (fun q => chunk I r q) x := dif_pos r.isLt

/-- A block at the counts of its rows' group before trip `n` (zeros before the first). -/
def blkN (I : S128x64.Idx → BitVec 32) (off n : ℕ) : Vec F S8x5008 .f32 := fun j =>
  match n with | 0 => zf | n + 1 => rv I (16 * n + off + (j 0).val) (j 1).val

/-- A block during trip `n`, its rows below `k` done. -/
def mix (I : S128x64.Idx → BitVec 32) (off n k : ℕ) : Vec F S8x5008 .f32 := fun j => if (j 0).val < k then blkN I off (n + 1) j else blkN I off n j

theorem mix_zero (I : S128x64.Idx → BitVec 32) (off n : ℕ) : (mix I off n 0 : Vec F S8x5008 .f32) = blkN I off n := by
  funext j; exact if_neg (Nat.not_lt_zero _)
theorem mix_all (I : S128x64.Idx → BitVec 32) (off n : ℕ) : (mix I off n 8 : Vec F S8x5008 .f32) = blkN I off (n + 1) := by
  funext j; exact if_pos (j 0).isLt

theorem add_mix (I : S128x64.Idx → BitVec 32) (off n k : ℕ) (G : Vec F S8x5008 .f32) (rw : BitVec 32) (hrw : rw.toNat = k) (R : Fin 128) (hR : R.val = 16 * n + off + k)
    (h0 : Inb rw (chunk I R 0)) (h1 : Inb rw (chunk I R 1)) (h2 : Inb rw (chunk I R 2)) (h3 : Inb rw (chunk I R 3))
    (hG : ∀ j : S8x5008.Idx, G j = if (j 0).val = k then zf else mix I off n k j) :
    sadd (sadd (sadd (sadd G rw (chunk I R 0) h0) rw (chunk I R 1) h1) rw (chunk I R 2) h2) rw (chunk I R 3) h3 = mix I off n (k + 1) := by
  subst hrw
  funext j
  rw [addRow_apply G rw (fun q => chunk I R q) h0 h1 h2 h3 (fun j hj => by rw [hG j, if_pos hj])]
  by_cases h : (j 0).val = rw.toNat
  · rw [if_pos h]; unfold mix; rw [if_pos (by omega)]
    show _ = rv I (16 * n + off + (j 0).val) (j 1).val
    rw [h, ← hR, rv_of]
  · rw [if_neg h, hG j, if_neg h]; unfold mix
    by_cases hlt : (j 0).val < rw.toNat
    · rw [if_pos hlt, if_pos (by omega)]
    · rw [if_neg hlt, if_neg (by omega)]

theorem clr_mix (I : S128x64.Idx → BitVec 32) (off n k : ℕ) (rw : BitVec 32) (hrw : rw.toNat = k) (R : Fin 128) (hR : R.val = 16 * n + off + k)
    (h0 : Inb rw (chunk I R 0)) (h1 : Inb rw (chunk I R 1)) (h2 : Inb rw (chunk I R 2)) (h3 : Inb rw (chunk I R 3)) (j : S8x5008.Idx) :
    sclr (sclr (sclr (sclr (mix I off (n + 1) k : Vec F S8x5008 .f32) rw (chunk I R 0) h0) rw (chunk I R 1) h1) rw (chunk I R 2) h2) rw (chunk I R 3) h3 j
      = if (j 0).val = k then zf else mix I off (n + 1) k j := by
  subst hrw
  refine clrRow_apply _ rw (fun q => chunk I R q) h0 h1 h2 h3 (fun j hj => ?_) j
  unfold mix
  rw [if_neg (by omega)]
  show rv I (16 * n + off + (j 0).val) (j 1).val = _
  rw [hj, ← hR, rv_of]

theorem zero_mix (I : S128x64.Idx → BitVec 32) (off k : ℕ) (j : S8x5008.Idx) :
    (mix I off 0 k : Vec F S8x5008 .f32) j = if (j 0).val = k then zf else mix I off 0 k j := by
  by_cases h : (j 0).val = k
  · rw [if_pos h]; unfold mix; rw [if_neg (by omega)]; rfl
  · rw [if_neg h]

theorem chunk_lt {I : S128x64.Idx → BitVec 32} (hI : ∀ y, (I y).toNat < 5008) (r : Fin 128) (q : Fin 4) (x : S16.Idx) : (chunk I r q x).toNat < 5008 := hI _

/-! ## The step -/

variable (d : Dev nD) (c : Fin τ.nSC) (j : Fin τ.nSub)

section Step

variable {a : Memref sig .scVector .vmem S128x64 .i32} {b : Memref sig .scVector .vmem S8x5008 .f32}
  {I : S128x64.Idx → BitVec 32} {G : Vec F S8x5008 .f32} {α : Type} {Q : α → sProp (MT nD τ sig (HIx 1) (Elt F) ℕ UU ℕ)}

/-- A chunk of a row read, its words' range assumed, and a scatter by it. -/
theorem wp_chunk {off : Fin 2 → ℕ} {inb : ∀ a, off a + S1x16.size a ≤ S128x64.size a} {hl : a.view.LoadsAt (Rect.unit (s := S128x64) off S1x16.size inb).toLoadRect}
    (rw : BitVec 32) (chk : V16 → Prop) (dec : ∀ v, Decidable (chk v)) (idx : ∀ v, chk v → Inb rw v) (vals : V16 → FVec F S16 .f32) (mask : V16 → IVec S16 1) (add : Bool)
    {hs : (b.access (.whole S8x5008)).Stores Finset.univ} {k : PUnit → Prog (TpuEff nD τ sig (Elt F) Λ₀ (.scVector c j)) α}
    (r : Fin 128) (q : Fin 4) (hr : off 0 = r.val) (hq : off 1 = 16 * q.val) (hchk : chk (chunk I r q)) (hin : Inb rw (chunk I r q)) :
    (iprop(hd (F := F) d c j a I ∗ hd d c j b G) : sProp 𝕄)
      ⊢ iprop(((hd d c j a I ∗ hd d c j b (storeIdx (F := F) (s := S8x5008) (e := .f32) (d := ![16]) G ![broadcast S16 rw, chunk I r q] (vals (chunk I r q)) (mask (chunk I r q)) add hin))
          -∗ wp frame (wpE (defs₀ (F := F)) 𝒱₀ (V d c j) none) Set.univ (k ⟨⟩) Q)
      -∗ wp frame (wpE (defs₀ (F := F)) 𝒱₀ (V d c j) none) Set.univ
          (Prog.lift (.load a (Rect.unit (s := S128x64) off S1x16.size inb).toLoadRect hl) >>= fun ld =>
            Prog.lift (TpuEff.assume (chk (shapeCast S16 ld shapeCasts_S1x16_S16)) (dec _)) >>= fun h =>
              SparseCore.vectorStoreIdx b ![broadcast S16 rw, shapeCast S16 ld shapeCasts_S1x16_S16] (vals (shapeCast S16 ld shapeCasts_S1x16_S16))
                (mask (shapeCast S16 ld shapeCasts_S1x16_S16)) add (idx _ h.down) hs >>= k) Q) := by
  have e := load_chunk I off inb r q hr hq
  have body : ∀ v : V16, v = chunk I r q → ∀ hc : chk v,
      (iprop(hd (F := F) d c j a I ∗ hd d c j b G ∗ ((hd d c j a I ∗ hd d c j b (storeIdx (F := F) (s := S8x5008) (e := .f32) (d := ![16]) G ![broadcast S16 rw, chunk I r q] (vals (chunk I r q)) (mask (chunk I r q)) add hin))
          -∗ wp frame (wpE (defs₀ (F := F)) 𝒱₀ (V d c j) none) Set.univ (k ⟨⟩) Q)) : sProp 𝕄)
        ⊢ wp frame (wpE (defs₀ (F := F)) 𝒱₀ (V d c j) none) Set.univ
          (SparseCore.vectorStoreIdx b ![broadcast S16 rw, v] (vals v) (mask v) add (idx v hc) hs >>= k) Q := by
    rintro v rfl hc
    iintro ⟨Ha, Hb, Hk⟩
    iapply (wp_hd_scatter (F := F) d c j (b := b) (G := G) (idxs := ![broadcast S16 rw, chunk I r q]) (v := vals (chunk I r q)) (mask := mask (chunk I r q)) (add := add)
      (h := hin) (hs := hs) (k := k) (Q := Q)) $$ Hb
    iintro Hb
    iapply Hk
    isplitl [Ha]; · iexact Ha
    iexact Hb
  iintro ⟨Ha, Hb⟩ Hk
  iapply (wp_hd_load (F := F) d c j (b := a) (G := I) (r := Rect.unit (s := S128x64) off S1x16.size inb)
    (k := fun ld => Prog.lift (TpuEff.assume (chk (shapeCast S16 ld shapeCasts_S1x16_S16)) (dec _)) >>= fun h =>
              SparseCore.vectorStoreIdx b ![broadcast S16 rw, shapeCast S16 ld shapeCasts_S1x16_S16] (vals (shapeCast S16 ld shapeCasts_S1x16_S16))
                (mask (shapeCast S16 ld shapeCasts_S1x16_S16)) add (idx _ h.down) hs >>= k)) $$ Ha
  iintro Ha
  have hc : chk (shapeCast S16 (fun x => I ((Rect.unit (s := S128x64) off S1x16.size inb).emb x)) shapeCasts_S1x16_S16 : V16) := e.symm ▸ hchk
  iapply (wp_assume (defs := defs₀ (F := F)) 𝒱₀ (V d c j) none Set.univ
    (k := fun h => SparseCore.vectorStoreIdx b ![broadcast S16 rw, shapeCast S16 (fun x => I ((Rect.unit (s := S128x64) off S1x16.size inb).emb x)) shapeCasts_S1x16_S16] (vals (shapeCast S16 (fun x => I ((Rect.unit (s := S128x64) off S1x16.size inb).emb x)) shapeCasts_S1x16_S16))
                (mask (shapeCast S16 (fun x => I ((Rect.unit (s := S128x64) off S1x16.size inb).emb x)) shapeCasts_S1x16_S16)) add (idx _ h.down) hs >>= k) hc)
  iapply (body _ e hc)
  isplitl [Ha]; · iexact Ha
  isplitl [Hb]; · iexact Hb
  iexact Hk

end Step

end Cert.Proof.Counts

end
-- ==== Proof.RowLoops.lean ====
/-
  The row loops of a tile's trip, for its two blocks: each trip of the loop takes the block one row further (`mix`).
-/
module

public import proofs.«01_k».proof.Proof.Trip

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- A tile's SparseCore and subcore. -/
abbrev cV (L : grid0.Coords) : Fin τ.nSC := (L 0).castLE hcore0
abbrev jV (L : grid0.Coords) : Fin τ.nSub := (L 1).castLE hsub0

variable (d : Dev nD) (L : grid0.Coords)
variable (arg2 : Memref sig .scVector .hbm S4096x64 .i32) (harg2 : arg2.IsWhole) (arg3 : Memref sig .scVector .hbm S4096x5008 .f32) (harg3 : arg3.IsWhole)
  (arg4 : Memref sig .scVector .vmem S128x64 .i32) (harg4 : arg4.IsWhole) (arg5 : Memref sig .scVector .vmem S8x5008 .f32) (harg5 : arg5.IsWhole)
  (arg6 : Memref sig .scVector .vmem S8x5008 .f32) (harg6 : arg6.IsWhole) (arg7 arg8 v11_r0 : DmaSems sig S_)
variable {I : S128x64.Idx → BitVec 32}

/-- The loop word of trip `k` of a row loop. -/
theorem iv_toNat (k : Fin 8) : (Scf.iv 0#32 1#32 k : BitVec 32).toNat = k.val := by revert k; decide

theorem cond2_pos : ∀ n : Fin k0_t5_loop.trips, k0_cond2 n = 1#1 → n.val ≠ 0 := by decide +kernel
theorem cond2_neg : ∀ n : Fin k0_t5_loop.trips, ¬ k0_cond2 n = 1#1 → n.val = 0 := by decide +kernel
theorem off5_row : ∀ (n : Fin k0_t5_loop.trips) (k : Fin k0_t6_loop.trips), n.val ≠ 0 → k0_off5 n k 0 = 16 * (n.val - 1) + 0 + k.val := by decide +kernel
theorem off5_col : ∀ (n : Fin k0_t5_loop.trips) (k : Fin k0_t6_loop.trips), k0_off5 n k 1 = 0 := by decide +kernel
theorem off6_row : ∀ (n : Fin k0_t5_loop.trips) (k : Fin k0_t6_loop.trips), n.val ≠ 0 → k0_off6 n k 0 = 16 * (n.val - 1) + 0 + k.val := by decide +kernel
theorem off6_col : ∀ (n : Fin k0_t5_loop.trips) (k : Fin k0_t6_loop.trips), k0_off6 n k 1 = 16 := by decide +kernel
theorem off7_row : ∀ (n : Fin k0_t5_loop.trips) (k : Fin k0_t6_loop.trips), n.val ≠ 0 → k0_off7 n k 0 = 16 * (n.val - 1) + 0 + k.val := by decide +kernel
theorem off7_col : ∀ (n : Fin k0_t5_loop.trips) (k : Fin k0_t6_loop.trips), k0_off7 n k 1 = 32 := by decide +kernel
theorem off8_row : ∀ (n : Fin k0_t5_loop.trips) (k : Fin k0_t6_loop.trips), n.val ≠ 0 → k0_off8 n k 0 = 16 * (n.val - 1) + 0 + k.val := by decide +kernel
theorem off8_col : ∀ (n : Fin k0_t5_loop.trips) (k : Fin k0_t6_loop.trips), k0_off8 n k 1 = 48 := by decide +kernel

theorem t6_trip (hI : ∀ y, (I y).toNat < 5008) (n : Fin k0_t5_loop.trips) (k : Fin k0_t6_loop.trips) (u : Unit) :
    (iprop(hd (F := F) d (cV L) (jV L) arg4 I ∗ hd d (cV L) (jV L) arg5 (mix I 0 n.val k.val)) : sProp 𝕄)
      ⊢ wp frame (wpE (defs₀ (F := F)) 𝒱₀ (V d (cV L) (jV L)) none) Set.univ
          (k0_t6_body (F := F) L arg2 harg2 arg3 harg3 arg4 harg4 arg5 harg5 arg6 harg6 arg7 arg8 v11_r0 n k u)
          fun _ => iprop(hd (F := F) d (cV L) (jV L) arg4 I ∗ hd d (cV L) (jV L) arg5 (mix I 0 n.val (k.val + 1))) := by
  have hn : n.val < 8 := n.isLt
  have hk : k.val < 8 := k.isLt
  have hrw : (Scf.iv 0#32 1#32 k : BitVec 32).toNat = k.val := iv_toNat k
  have hrw8 : (Scf.iv 0#32 1#32 k : BitVec 32).toNat < 8 := by omega
  have hib : ∀ (r : Fin 128) (q : Fin 4), Inb (Scf.iv 0#32 1#32 k) (chunk I r q) := fun r q => inb_of _ _ hrw8 (chunk_lt hI r q)
  obtain ⟨R, hR⟩ : ∃ R : Fin 128, R.val = 16 * n.val + 0 + k.val := ⟨⟨16 * n.val + 0 + k.val, by omega⟩, rfl⟩
  unfold k0_t6_body
  by_cases hc : k0_cond2 n = 1#1
  · rw [dif_pos hc]
    have hn0 := cond2_pos n hc
    obtain ⟨R', hR'⟩ : ∃ R : Fin 128, R.val = 16 * (n.val - 1) + 0 + k.val := ⟨⟨16 * (n.val - 1) + 0 + k.val, by omega⟩, rfl⟩
    iintro H
    iapply (wp_chunk (F := F) d (cV L) (jV L) (Scf.iv 0#32 1#32 k) (fun v => k0_chk1 n (broadcast S16 (Scf.iv 0#32 1#32 k)) v) (fun v => k0_chk1.dec n _ v)
      (fun v hw => k0_idx1_inb n _ v hw hc) (fun _ _ => zf) (fun _ _ => 1#1) false R' 0 ((off5_row n k hn0).trans hR'.symm) (off5_col n k) (fun _ => hib R' 0) (hib R' 0)) $$ H
    iintro H
    iapply (wp_chunk (F := F) d (cV L) (jV L) (Scf.iv 0#32 1#32 k) (fun v => k0_chk2 n (broadcast S16 (Scf.iv 0#32 1#32 k)) v) (fun v => k0_chk2.dec n _ v)
      (fun v hw => k0_idx2_inb n _ v hw hc) (fun _ _ => zf) (fun _ _ => 1#1) false R' 1 ((off6_row n k hn0).trans hR'.symm) (off6_col n k) (fun _ => hib R' 1) (hib R' 1)) $$ H
    iintro H
    iapply (wp_chunk (F := F) d (cV L) (jV L) (Scf.iv 0#32 1#32 k) (fun v => k0_chk3 n (broadcast S16 (Scf.iv 0#32 1#32 k)) v) (fun v => k0_chk3.dec n _ v)
      (fun v hw => k0_idx3_inb n _ v hw hc) (fun _ _ => zf) (fun _ _ => 1#1) false R' 2 ((off7_row n k hn0).trans hR'.symm) (off7_col n k) (fun _ => hib R' 2) (hib R' 2)) $$ H
    iintro H
    iapply (wp_chunk (F := F) d (cV L) (jV L) (Scf.iv 0#32 1#32 k) (fun v => k0_chk4 n (broadcast S16 (Scf.iv 0#32 1#32 k)) v) (fun v => k0_chk4.dec n _ v)
      (fun v hw => k0_idx4_inb n _ v hw hc) (fun _ _ => zf) (fun _ _ => 1#1) false R' 3 ((off8_row n k hn0).trans hR'.symm) (off8_col n k) (fun _ => hib R' 3) (hib R' 3)) $$ H
    iintro H
    iapply (wp_chunk (F := F) d (cV L) (jV L) (Scf.iv 0#32 1#32 k) (fun v => k0_chk5 (broadcast S16 (Scf.iv 0#32 1#32 k)) v) (fun v => k0_chk5.dec _ v)
      (fun v hw => k0_idx5_inb _ v hw) cnts msk true R 0 ((congrFun (k0_off9_eq n k) 0).trans (show 16 * n.val + k.val = R.val by omega)) (congrFun (k0_off9_eq n k) 1) (hib R 0) (hib R 0)) $$ H
    iintro H
    iapply (wp_chunk (F := F) d (cV L) (jV L) (Scf.iv 0#32 1#32 k) (fun v => k0_chk6 (broadcast S16 (Scf.iv 0#32 1#32 k)) v) (fun v => k0_chk6.dec _ v)
      (fun v hw => k0_idx6_inb _ v hw) cnts msk true R 1 ((congrFun (k0_off10_eq n k) 0).trans (show 16 * n.val + k.val = R.val by omega)) (congrFun (k0_off10_eq n k) 1) (hib R 1) (hib R 1)) $$ H
    iintro H
    iapply (wp_chunk (F := F) d (cV L) (jV L) (Scf.iv 0#32 1#32 k) (fun v => k0_chk7 (broadcast S16 (Scf.iv 0#32 1#32 k)) v) (fun v => k0_chk7.dec _ v)
      (fun v hw => k0_idx7_inb _ v hw) cnts msk true R 2 ((congrFun (k0_off11_eq n k) 0).trans (show 16 * n.val + k.val = R.val by omega)) (congrFun (k0_off11_eq n k) 1) (hib R 2) (hib R 2)) $$ H
    iintro H
    iapply (wp_chunk (F := F) d (cV L) (jV L) (Scf.iv 0#32 1#32 k) (fun v => k0_chk8 (broadcast S16 (Scf.iv 0#32 1#32 k)) v) (fun v => k0_chk8.dec _ v)
      (fun v hw => k0_idx8_inb _ v hw) cnts msk true R 3 ((congrFun (k0_off12_eq n k) 0).trans (show 16 * n.val + k.val = R.val by omega)) (congrFun (k0_off12_eq n k) 1) (hib R 3) (hib R 3)) $$ H
    iintro H
    rw [wp_pure]
    imodintro
    icases H with ⟨Ha, Hb⟩
    isplitl [Ha]; · iexact Ha
    have he := add_mix (F := F) I 0 n.val k.val (sclr (sclr (sclr (sclr (mix I 0 n.val k.val) (Scf.iv 0#32 1#32 k) (chunk I R' 0) (hib R' 0)) (Scf.iv 0#32 1#32 k) (chunk I R' 1) (hib R' 1))
        (Scf.iv 0#32 1#32 k) (chunk I R' 2) (hib R' 2)) (Scf.iv 0#32 1#32 k) (chunk I R' 3) (hib R' 3)) (Scf.iv 0#32 1#32 k) hrw R hR (hib R 0) (hib R 1) (hib R 2) (hib R 3)
      (fun j => by
        obtain ⟨n', hn'⟩ : ∃ n', n.val = n' + 1 := ⟨n.val - 1, by omega⟩
        rw [hn'] at hR' ⊢
        exact clr_mix I 0 n' k.val (Scf.iv 0#32 1#32 k) hrw R' hR' (hib R' 0) (hib R' 1) (hib R' 2) (hib R' 3) j)
    rw [← he]
    iexact Hb
  · rw [dif_neg hc]
    have hn0 := cond2_neg n hc
    iintro H
    iapply (wp_chunk (F := F) d (cV L) (jV L) (Scf.iv 0#32 1#32 k) (fun v => k0_chk5 (broadcast S16 (Scf.iv 0#32 1#32 k)) v) (fun v => k0_chk5.dec _ v)
      (fun v hw => k0_idx5_inb _ v hw) cnts msk true R 0 ((congrFun (k0_off9_eq n k) 0).trans (show 16 * n.val + k.val = R.val by omega)) (congrFun (k0_off9_eq n k) 1) (hib R 0) (hib R 0)) $$ H
    iintro H
    iapply (wp_chunk (F := F) d (cV L) (jV L) (Scf.iv 0#32 1#32 k) (fun v => k0_chk6 (broadcast S16 (Scf.iv 0#32 1#32 k)) v) (fun v => k0_chk6.dec _ v)
      (fun v hw => k0_idx6_inb _ v hw) cnts msk true R 1 ((congrFun (k0_off10_eq n k) 0).trans (show 16 * n.val + k.val = R.val by omega)) (congrFun (k0_off10_eq n k) 1) (hib R 1) (hib R 1)) $$ H
    iintro H
    iapply (wp_chunk (F := F) d (cV L) (jV L) (Scf.iv 0#32 1#32 k) (fun v => k0_chk7 (broadcast S16 (Scf.iv 0#32 1#32 k)) v) (fun v => k0_chk7.dec _ v)
      (fun v hw => k0_idx7_inb _ v hw) cnts msk true R 2 ((congrFun (k0_off11_eq n k) 0).trans (show 16 * n.val + k.val = R.val by omega)) (congrFun (k0_off11_eq n k) 1) (hib R 2) (hib R 2)) $$ H
    iintro H
    iapply (wp_chunk (F := F) d (cV L) (jV L) (Scf.iv 0#32 1#32 k) (fun v => k0_chk8 (broadcast S16 (Scf.iv 0#32 1#32 k)) v) (fun v => k0_chk8.dec _ v)
      (fun v hw => k0_idx8_inb _ v hw) cnts msk true R 3 ((congrFun (k0_off12_eq n k) 0).trans (show 16 * n.val + k.val = R.val by omega)) (congrFun (k0_off12_eq n k) 1) (hib R 3) (hib R 3)) $$ H
    iintro H
    rw [wp_pure]
    imodintro
    icases H with ⟨Ha, Hb⟩
    isplitl [Ha]; · iexact Ha
    have he := add_mix (F := F) I 0 n.val k.val (mix I 0 n.val k.val) (Scf.iv 0#32 1#32 k) hrw R hR (hib R 0) (hib R 1) (hib R 2) (hib R 3)
      (fun j => by rw [hn0]; exact zero_mix I 0 k.val j)
    rw [← he]
    iexact Hb

theorem cond4_pos : ∀ n : Fin k0_t5_loop.trips, k0_cond4 n = 1#1 → n.val ≠ 0 := by decide +kernel
theorem cond4_neg : ∀ n : Fin k0_t5_loop.trips, ¬ k0_cond4 n = 1#1 → n.val = 0 := by decide +kernel
theorem off15_row : ∀ (n : Fin k0_t5_loop.trips) (k : Fin k0_t7_loop.trips), n.val ≠ 0 → k0_off15 n k 0 = 16 * (n.val - 1) + 8 + k.val := by decide +kernel
theorem off15_col : ∀ (n : Fin k0_t5_loop.trips) (k : Fin k0_t7_loop.trips), k0_off15 n k 1 = 0 := by decide +kernel
theorem off16_row : ∀ (n : Fin k0_t5_loop.trips) (k : Fin k0_t7_loop.trips), n.val ≠ 0 → k0_off16 n k 0 = 16 * (n.val - 1) + 8 + k.val := by decide +kernel
theorem off16_col : ∀ (n : Fin k0_t5_loop.trips) (k : Fin k0_t7_loop.trips), k0_off16 n k 1 = 16 := by decide +kernel
theorem off17_row : ∀ (n : Fin k0_t5_loop.trips) (k : Fin k0_t7_loop.trips), n.val ≠ 0 → k0_off17 n k 0 = 16 * (n.val - 1) + 8 + k.val := by decide +kernel
theorem off17_col : ∀ (n : Fin k0_t5_loop.trips) (k : Fin k0_t7_loop.trips), k0_off17 n k 1 = 32 := by decide +kernel
theorem off18_row : ∀ (n : Fin k0_t5_loop.trips) (k : Fin k0_t7_loop.trips), n.val ≠ 0 → k0_off18 n k 0 = 16 * (n.val - 1) + 8 + k.val := by decide +kernel
theorem off18_col : ∀ (n : Fin k0_t5_loop.trips) (k : Fin k0_t7_loop.trips), k0_off18 n k 1 = 48 := by decide +kernel

theorem t7_trip (hI : ∀ y, (I y).toNat < 5008) (n : Fin k0_t5_loop.trips) (k : Fin k0_t7_loop.trips) (u : Unit) :
    (iprop(hd (F := F) d (cV L) (jV L) arg4 I ∗ hd d (cV L) (jV L) arg6 (mix I 8 n.val k.val)) : sProp 𝕄)
      ⊢ wp frame (wpE (defs₀ (F := F)) 𝒱₀ (V d (cV L) (jV L)) none) Set.univ
          (k0_t7_body (F := F) L arg2 harg2 arg3 harg3 arg4 harg4 arg5 harg5 arg6 harg6 arg7 arg8 v11_r0 n k u)
          fun _ => iprop(hd (F := F) d (cV L) (jV L) arg4 I ∗ hd d (cV L) (jV L) arg6 (mix I 8 n.val (k.val + 1))) := by
  have hn : n.val < 8 := n.isLt
  have hk : k.val < 8 := k.isLt
  have hrw : (Scf.iv 0#32 1#32 k : BitVec 32).toNat = k.val := iv_toNat k
  have hrw8 : (Scf.iv 0#32 1#32 k : BitVec 32).toNat < 8 := by omega
  have hib : ∀ (r : Fin 128) (q : Fin 4), Inb (Scf.iv 0#32 1#32 k) (chunk I r q) := fun r q => inb_of _ _ hrw8 (chunk_lt hI r q)
  obtain ⟨R, hR⟩ : ∃ R : Fin 128, R.val = 16 * n.val + 8 + k.val := ⟨⟨16 * n.val + 8 + k.val, by omega⟩, rfl⟩
  unfold k0_t7_body
  by_cases hc : k0_cond4 n = 1#1
  · rw [dif_pos hc]
    have hn0 := cond4_pos n hc
    obtain ⟨R', hR'⟩ : ∃ R : Fin 128, R.val = 16 * (n.val - 1) + 8 + k.val := ⟨⟨16 * (n.val - 1) + 8 + k.val, by omega⟩, rfl⟩
    iintro H
    iapply (wp_chunk (F := F) d (cV L) (jV L) (Scf.iv 0#32 1#32 k) (fun v => k0_chk9 n (broadcast S16 (Scf.iv 0#32 1#32 k)) v) (fun v => k0_chk9.dec n _ v)
      (fun v hw => k0_idx9_inb n _ v hw hc) (fun _ _ => zf) (fun _ _ => 1#1) false R' 0 ((off15_row n k hn0).trans hR'.symm) (off15_col n k) (fun _ => hib R' 0) (hib R' 0)) $$ H
    iintro H
    iapply (wp_chunk (F := F) d (cV L) (jV L) (Scf.iv 0#32 1#32 k) (fun v => k0_chk10 n (broadcast S16 (Scf.iv 0#32 1#32 k)) v) (fun v => k0_chk10.dec n _ v)
      (fun v hw => k0_idx10_inb n _ v hw hc) (fun _ _ => zf) (fun _ _ => 1#1) false R' 1 ((off16_row n k hn0).trans hR'.symm) (off16_col n k) (fun _ => hib R' 1) (hib R' 1)) $$ H
    iintro H
    iapply (wp_chunk (F := F) d (cV L) (jV L) (Scf.iv 0#32 1#32 k) (fun v => k0_chk11 n (broadcast S16 (Scf.iv 0#32 1#32 k)) v) (fun v => k0_chk11.dec n _ v)
      (fun v hw => k0_idx11_inb n _ v hw hc) (fun _ _ => zf) (fun _ _ => 1#1) false R' 2 ((off17_row n k hn0).trans hR'.symm) (off17_col n k) (fun _ => hib R' 2) (hib R' 2)) $$ H
    iintro H
    iapply (wp_chunk (F := F) d (cV L) (jV L) (Scf.iv 0#32 1#32 k) (fun v => k0_chk12 n (broadcast S16 (Scf.iv 0#32 1#32 k)) v) (fun v => k0_chk12.dec n _ v)
      (fun v hw => k0_idx12_inb n _ v hw hc) (fun _ _ => zf) (fun _ _ => 1#1) false R' 3 ((off18_row n k hn0).trans hR'.symm) (off18_col n k) (fun _ => hib R' 3) (hib R' 3)) $$ H
    iintro H
    iapply (wp_chunk (F := F) d (cV L) (jV L) (Scf.iv 0#32 1#32 k) (fun v => k0_chk13 (broadcast S16 (Scf.iv 0#32 1#32 k)) v) (fun v => k0_chk13.dec _ v)
      (fun v hw => k0_idx13_inb _ v hw) cnts msk true R 0 ((congrFun (k0_off19_eq n k) 0).trans (show 16 * n.val + k.val + 8 = R.val by omega)) (congrFun (k0_off19_eq n k) 1) (hib R 0) (hib R 0)) $$ H
    iintro H
    iapply (wp_chunk (F := F) d (cV L) (jV L) (Scf.iv 0#32 1#32 k) (fun v => k0_chk14 (broadcast S16 (Scf.iv 0#32 1#32 k)) v) (fun v => k0_chk14.dec _ v)
      (fun v hw => k0_idx14_inb _ v hw) cnts msk true R 1 ((congrFun (k0_off20_eq n k) 0).trans (show 16 * n.val + k.val + 8 = R.val by omega)) (congrFun (k0_off20_eq n k) 1) (hib R 1) (hib R 1)) $$ H
    iintro H
    iapply (wp_chunk (F := F) d (cV L) (jV L) (Scf.iv 0#32 1#32 k) (fun v => k0_chk15 (broadcast S16 (Scf.iv 0#32 1#32 k)) v) (fun v => k0_chk15.dec _ v)
      (fun v hw => k0_idx15_inb _ v hw) cnts msk true R 2 ((congrFun (k0_off21_eq n k) 0).trans (show 16 * n.val + k.val + 8 = R.val by omega)) (congrFun (k0_off21_eq n k) 1) (hib R 2) (hib R 2)) $$ H
    iintro H
    iapply (wp_chunk (F := F) d (cV L) (jV L) (Scf.iv 0#32 1#32 k) (fun v => k0_chk16 (broadcast S16 (Scf.iv 0#32 1#32 k)) v) (fun v => k0_chk16.dec _ v)
      (fun v hw => k0_idx16_inb _ v hw) cnts msk true R 3 ((congrFun (k0_off22_eq n k) 0).trans (show 16 * n.val + k.val + 8 = R.val by omega)) (congrFun (k0_off22_eq n k) 1) (hib R 3) (hib R 3)) $$ H
    iintro H
    rw [wp_pure]
    imodintro
    icases H with ⟨Ha, Hb⟩
    isplitl [Ha]; · iexact Ha
    have he := add_mix (F := F) I 8 n.val k.val (sclr (sclr (sclr (sclr (mix I 8 n.val k.val) (Scf.iv 0#32 1#32 k) (chunk I R' 0) (hib R' 0)) (Scf.iv 0#32 1#32 k) (chunk I R' 1) (hib R' 1))
        (Scf.iv 0#32 1#32 k) (chunk I R' 2) (hib R' 2)) (Scf.iv 0#32 1#32 k) (chunk I R' 3) (hib R' 3)) (Scf.iv 0#32 1#32 k) hrw R hR (hib R 0) (hib R 1) (hib R 2) (hib R 3)
      (fun j => by
        obtain ⟨n', hn'⟩ : ∃ n', n.val = n' + 1 := ⟨n.val - 1, by omega⟩
        rw [hn'] at hR' ⊢
        exact clr_mix I 8 n' k.val (Scf.iv 0#32 1#32 k) hrw R' hR' (hib R' 0) (hib R' 1) (hib R' 2) (hib R' 3) j)
    rw [← he]
    iexact Hb
  · rw [dif_neg hc]
    have hn0 := cond4_neg n hc
    iintro H
    iapply (wp_chunk (F := F) d (cV L) (jV L) (Scf.iv 0#32 1#32 k) (fun v => k0_chk13 (broadcast S16 (Scf.iv 0#32 1#32 k)) v) (fun v => k0_chk13.dec _ v)
      (fun v hw => k0_idx13_inb _ v hw) cnts msk true R 0 ((congrFun (k0_off19_eq n k) 0).trans (show 16 * n.val + k.val + 8 = R.val by omega)) (congrFun (k0_off19_eq n k) 1) (hib R 0) (hib R 0)) $$ H
    iintro H
    iapply (wp_chunk (F := F) d (cV L) (jV L) (Scf.iv 0#32 1#32 k) (fun v => k0_chk14 (broadcast S16 (Scf.iv 0#32 1#32 k)) v) (fun v => k0_chk14.dec _ v)
      (fun v hw => k0_idx14_inb _ v hw) cnts msk true R 1 ((congrFun (k0_off20_eq n k) 0).trans (show 16 * n.val + k.val + 8 = R.val by omega)) (congrFun (k0_off20_eq n k) 1) (hib R 1) (hib R 1)) $$ H
    iintro H
    iapply (wp_chunk (F := F) d (cV L) (jV L) (Scf.iv 0#32 1#32 k) (fun v => k0_chk15 (broadcast S16 (Scf.iv 0#32 1#32 k)) v) (fun v => k0_chk15.dec _ v)
      (fun v hw => k0_idx15_inb _ v hw) cnts msk true R 2 ((congrFun (k0_off21_eq n k) 0).trans (show 16 * n.val + k.val + 8 = R.val by omega)) (congrFun (k0_off21_eq n k) 1) (hib R 2) (hib R 2)) $$ H
    iintro H
    iapply (wp_chunk (F := F) d (cV L) (jV L) (Scf.iv 0#32 1#32 k) (fun v => k0_chk16 (broadcast S16 (Scf.iv 0#32 1#32 k)) v) (fun v => k0_chk16.dec _ v)
      (fun v hw => k0_idx16_inb _ v hw) cnts msk true R 3 ((congrFun (k0_off22_eq n k) 0).trans (show 16 * n.val + k.val + 8 = R.val by omega)) (congrFun (k0_off22_eq n k) 1) (hib R 3) (hib R 3)) $$ H
    iintro H
    rw [wp_pure]
    imodintro
    icases H with ⟨Ha, Hb⟩
    isplitl [Ha]; · iexact Ha
    have he := add_mix (F := F) I 8 n.val k.val (mix I 8 n.val k.val) (Scf.iv 0#32 1#32 k) hrw R hR (hib R 0) (hib R 1) (hib R 2) (hib R 3)
      (fun j => by rw [hn0]; exact zero_mix I 8 k.val j)
    rw [← he]
    iexact Hb

end Cert.Proof.Counts

end
-- ==== Proof.LayersObl.lean ====
/-
  The TensorCore call as one region of the entry: its proof data from any contents of the unscoped buffers, its body's obligation at every grid point, and the region's record.
-/
module

public import proofs.«01_k».proof.Proof.LayersBody
public import proofs.«01_k».proof.Proof.RowLoops
public import Idealize.ShloMosaic.Lib.Pipeline.RegionsLoop

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Pipeline (Dat Cfg Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b)) (B : ℕ)

/-- Operand 0's block at a point. -/
abbrev blk0 (c : Dev nD) (t : Fin cfg1.N) : (cfg1.win 0).block.Idx → Elt F (cfg1.win 0).elt := ((cfg1.win 0).blk t).view.read (Elt F) (V c main_v2)
/-- Operand 1's block at a point. -/
abbrev blk1 (c : Dev nD) (t : Fin cfg1.N) : (cfg1.win 1).block.Idx → Elt F (cfg1.win 1).elt := ((cfg1.win 1).blk t).view.read (Elt F) (V c main_v4)
/-- Operand 2's block at a point. -/
abbrev blk2 (c : Dev nD) (t : Fin cfg1.N) : (cfg1.win 2).block.Idx → Elt F (cfg1.win 2).elt := ((cfg1.win 2).blk t).view.read (Elt F) (V c main_v7)
/-- Operand 3's block at a point. -/
abbrev blk3 (c : Dev nD) (t : Fin cfg1.N) : (cfg1.win 3).block.Idx → Elt F (cfg1.win 3).elt := ((cfg1.win 3).blk t).view.read (Elt F) (V c main_v8)
/-- Operand 4's block at a point. -/
abbrev blk4 (c : Dev nD) (t : Fin cfg1.N) : (cfg1.win 4).block.Idx → Elt F (cfg1.win 4).elt := ((cfg1.win 4).blk t).view.read (Elt F) (V c main_v9)
/-- Operand 5's block at a point. -/
abbrev blk5 (c : Dev nD) (t : Fin cfg1.N) : (cfg1.win 5).block.Idx → Elt F (cfg1.win 5).elt := ((cfg1.win 5).blk t).view.read (Elt F) (V c main_v10)
/-- Operand 6's block at a point. -/
abbrev blk6 (c : Dev nD) (t : Fin cfg1.N) : (cfg1.win 6).block.Idx → Elt F (cfg1.win 6).elt := ((cfg1.win 6).blk t).view.read (Elt F) (V c main_v11)
/-- Operand 7's block at a point. -/
abbrev blk7 (c : Dev nD) (t : Fin cfg1.N) : (cfg1.win 7).block.Idx → Elt F (cfg1.win 7).elt := ((cfg1.win 7).blk t).view.read (Elt F) (V c main_v12)
/-- Operand 8's block at a point. -/
abbrev blk8 (c : Dev nD) (t : Fin cfg1.N) : (cfg1.win 8).block.Idx → Elt F (cfg1.win 8).elt := ((cfg1.win 8).blk t).view.read (Elt F) (V c main_v13)
/-- Operand 9's block at a point. -/
abbrev blk9 (c : Dev nD) (t : Fin cfg1.N) : (cfg1.win 9).block.Idx → Elt F (cfg1.win 9).elt := ((cfg1.win 9).blk t).view.read (Elt F) (V c main_v14)
/-- Operand 10's block at a point. -/
abbrev blk10 (c : Dev nD) (t : Fin cfg1.N) : (cfg1.win 10).block.Idx → Elt F (cfg1.win 10).elt := ((cfg1.win 10).blk t).view.read (Elt F) (V c main_v15)
/-- Operand 11's block at a point. -/
abbrev blk11 (c : Dev nD) (t : Fin cfg1.N) : (cfg1.win 11).block.Idx → Elt F (cfg1.win 11).elt := ((cfg1.win 11).blk t).view.read (Elt F) (V c main_v16)

/-- The block of the result at a point. -/
def outT (c : Dev nD) (t : Fin cfg1.N) : S512x128.Idx → F .f32 :=
  outB (F := F) (blk0 V c t) (blk1 V c t) (blk2 V c t) (blk3 V c t) (blk4 V c t) (blk5 V c t) (blk6 V c t) (blk7 V c t) (blk8 V c t) (blk9 V c t) (blk10 V c t) (blk11 V c t)

/-- The recorded waits the region may find: those of level at most `B`. -/
def low (c : Dev nD) : Set (SemLoc sig × HIx 1) := {p | (K (F := F)).lev ((T c : Thread nD τ), p.1) p.2 ≤ B}

/-- The proof data of one entry of the region. -/
def dat (c : Dev nD) : Dat τ (Elt F) (HIx 1) ℕ UU ℕ cfg1 c where
  A w := V c (Pipeline.arrRef spec1 w)
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => blk5 V c t
    | ⟨6, _⟩ => blk6 V c t
    | ⟨7, _⟩ => blk7 V c t
    | ⟨8, _⟩ => blk8 V c t
    | ⟨9, _⟩ => blk9 V c t
    | ⟨10, _⟩ => blk10 V c t
    | ⟨11, _⟩ => blk11 V c t
    | ⟨12, _⟩ => outT V c t
  Φ _ := Pipeline.scopedRest (Ix := HIx 1) (Name := ℕ) (U := UU) (Lvl := ℕ) (Val := Elt F) spec1 c
  q _ := fullShare
  owed _ := 0
  recorded _ := low (F := F) B c

theorem before0 (c : Dev nD) (t : Fin cfg1.N) (d : (cfg1.win 0).block.Idx → Elt F (cfg1.win 0).elt) : (dat V B c).before 0 t d = blk0 V c t :=
  (Dat.before_in_eq_fetched (dat V B c) 0 rfl (fun _ => rfl) (fun _ _ _ => rfl) (fun _ => rfl) t d).trans rfl
theorem before1 (c : Dev nD) (t : Fin cfg1.N) (d : (cfg1.win 1).block.Idx → Elt F (cfg1.win 1).elt) : (dat V B c).before 1 t d = blk1 V c t :=
  (Dat.before_in_eq_fetched (dat V B c) 1 rfl (fun _ => rfl) (fun _ _ _ => rfl) (fun _ => rfl) t d).trans rfl
theorem before2 (c : Dev nD) (t : Fin cfg1.N) (d : (cfg1.win 2).block.Idx → Elt F (cfg1.win 2).elt) : (dat V B c).before 2 t d = blk2 V c t :=
  (Dat.before_in_eq_fetched (dat V B c) 2 rfl (fun _ => rfl) (fun _ _ _ => rfl) (fun _ => rfl) t d).trans rfl
theorem before3 (c : Dev nD) (t : Fin cfg1.N) (d : (cfg1.win 3).block.Idx → Elt F (cfg1.win 3).elt) : (dat V B c).before 3 t d = blk3 V c t :=
  (Dat.before_in_eq_fetched (dat V B c) 3 rfl (fun _ => rfl) (fun _ _ _ => rfl) (fun _ => rfl) t d).trans rfl
theorem before4 (c : Dev nD) (t : Fin cfg1.N) (d : (cfg1.win 4).block.Idx → Elt F (cfg1.win 4).elt) : (dat V B c).before 4 t d = blk4 V c t :=
  (Dat.before_in_eq_fetched (dat V B c) 4 rfl (fun _ => rfl) (fun _ _ _ => rfl) (fun _ => rfl) t d).trans rfl
theorem before5 (c : Dev nD) (t : Fin cfg1.N) (d : (cfg1.win 5).block.Idx → Elt F (cfg1.win 5).elt) : (dat V B c).before 5 t d = blk5 V c t :=
  (Dat.before_in_eq_fetched (dat V B c) 5 rfl (fun _ => rfl) (fun _ _ _ => rfl) (fun _ => rfl) t d).trans rfl
theorem before6 (c : Dev nD) (t : Fin cfg1.N) (d : (cfg1.win 6).block.Idx → Elt F (cfg1.win 6).elt) : (dat V B c).before 6 t d = blk6 V c t :=
  (Dat.before_in_eq_fetched (dat V B c) 6 rfl (fun _ => rfl) (fun _ _ _ => rfl) (fun _ => rfl) t d).trans rfl
theorem before7 (c : Dev nD) (t : Fin cfg1.N) (d : (cfg1.win 7).block.Idx → Elt F (cfg1.win 7).elt) : (dat V B c).before 7 t d = blk7 V c t :=
  (Dat.before_in_eq_fetched (dat V B c) 7 rfl (fun _ => rfl) (fun _ _ _ => rfl) (fun _ => rfl) t d).trans rfl
theorem before8 (c : Dev nD) (t : Fin cfg1.N) (d : (cfg1.win 8).block.Idx → Elt F (cfg1.win 8).elt) : (dat V B c).before 8 t d = blk8 V c t :=
  (Dat.before_in_eq_fetched (dat V B c) 8 rfl (fun _ => rfl) (fun _ _ _ => rfl) (fun _ => rfl) t d).trans rfl
theorem before9 (c : Dev nD) (t : Fin cfg1.N) (d : (cfg1.win 9).block.Idx → Elt F (cfg1.win 9).elt) : (dat V B c).before 9 t d = blk9 V c t :=
  (Dat.before_in_eq_fetched (dat V B c) 9 rfl (fun _ => rfl) (fun _ _ _ => rfl) (fun _ => rfl) t d).trans rfl
theorem before10 (c : Dev nD) (t : Fin cfg1.N) (d : (cfg1.win 10).block.Idx → Elt F (cfg1.win 10).elt) : (dat V B c).before 10 t d = blk10 V c t :=
  (Dat.before_in_eq_fetched (dat V B c) 10 rfl (fun _ => rfl) (fun _ _ _ => rfl) (fun _ => rfl) t d).trans rfl
theorem before11 (c : Dev nD) (t : Fin cfg1.N) (d : (cfg1.win 11).block.Idx → Elt F (cfg1.win 11).elt) : (dat V B c).before 11 t d = blk11 V c t :=
  (Dat.before_in_eq_fetched (dat V B c) 11 rfl (fun _ => rfl) (fun _ _ _ => rfl) (fun _ => rfl) t d).trans rfl

set_option backward.isDefEq.respectTransparency.types false in
theorem body_obligation (c : Dev nD) : BodyObligation (dat V B c) (defs₀ (F := F)) 𝒱₀ (none : HIx 1) Set.univ := fun t => by
  rw [bigSep_W1, bigSep_W1]
  rw [show (dat V B c).Φ t.castSucc = Pipeline.scopedRest (Ix := HIx 1) (Name := ℕ) (U := UU) (Lvl := ℕ) (Val := Elt F) spec1 c from rfl,
    show (dat V B c).Φ t.succ = Pipeline.scopedRest (Ix := HIx 1) (Name := ℕ) (U := UU) (Lvl := ℕ) (Val := Elt F) spec1 c from rfl,
    show (dat V B c).owesAt (none : HIx 1) t.succ = (dat V B c).owesAt (none : HIx 1) t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before0]
  rw [before1]
  rw [before2]
  rw [before3]
  rw [before4]
  rw [before5]
  rw [before6]
  rw [before7]
  rw [before8]
  rw [before9]
  rw [before10]
  rw [before11]
  iapply (tc_body (F := F) c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) _ (hstage1_8 ((cfg1.slots t 8).cast nbuf1_8)) _ (hstage1_9 ((cfg1.slots t 9).cast nbuf1_9)) _ (hstage1_10 ((cfg1.slots t 10).cast nbuf1_10)) _ (hstage1_11 ((cfg1.slots t 11).cast nbuf1_11)) _ (hstage1_12 ((cfg1.slots t 12).cast nbuf1_12)) (blk0 V c t) (blk1 V c t) (blk2 V c t) (blk3 V c t) (blk4 V c t) (blk5 V c t) (blk6 V c t) (blk7 V c t) (blk8 V c t) (blk9 V c t) (blk10 V c t) (blk11 V c t) ((dat V B c).before 12 t d12))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Proof.Counts

end
-- ==== Proof.Region.lean ====
/-
  The TensorCore call's region record: entered from every unscoped buffer at given contents, left with the result's array written block by block.
-/
module

public import proofs.«01_k».proof.Proof.LayersObl

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.Pipeline (Dat Cfg Window BodyObligation cellOf)

variable {F : FTy → Type} [FloatOps F] [Named F]

local notation "𝕄" => MT nD τ sig (HIx 1) (Elt F) ℕ UU ℕ

/-- The TensorCore's unscoped references. -/
def ucRefs : Finset (DevRef τ sig) := (StableHlo.tcRefs τ sig).filter fun b => ¬ b.isScoped

omit [FloatOps F] [Named F] in
/-- The launch's unscoped buffers at a valuation, as one held set. -/
theorem unscoped_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

variable (V : (c : Dev nD) → (b : Ref sig .tc) → Buf (Elt F) ((c : Thread nD τ).loc b)) (B : ℕ)

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V B c

/-- The result's array after the region. -/
def layers (c : Dev nD) : Buf (Elt F) ((c : Thread nD τ).loc main_v17) := (dat V 0 c).arrAt 12 cfg1.N

theorem layers_eq (c : Dev nD) : (dat V B c).arrAt 12 cfg1.N = layers V c := by
  unfold layers Dat.arrAt
  rfl

variable (Vp : (c : Dev nD) → (b : Ref sig .tc) → Buf (Elt F) ((c : Thread nD τ).loc b))

/-- The core owes nothing, its recorded waits of level at most `B`. -/
def owesLow (c : Dev nD) : sProp 𝕄 := iprop(∃ W, ⌜(K (F := F)).WBelow (T c) W B⌝ ∗ owes (c : Thread nD τ) (0 : CellTallies nD τ sig (HIx 1)) W)

theorem lev_none (g : GSem nD τ sig) : (K (F := F)).lev g none = 0 := rfl

set_option backward.isDefEq.respectTransparency.types false in
/-- The region's record. -/
def reg (hout : ∀ c, Vp c main_v17 = layers V c) (hne : ∀ c (b : Ref sig .tc), b ≠ main_v17 → Vp c b = V c b) :
    Pipeline.RegionSeg (pcfgs (F := F)) adm (pdats V B) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V B c).loose
  hwaits := Pipeline.hwaits_of_owed_zero _ _ _ _ (K (F := F)).L (K (F := F)).lev 0 fun _ _ => rfl
  pre c := iprop(unscopedBufs c (V c) ∗ owesLow (F := F) B c)
  post c := iprop(unscopedBufs c (Vp c) ∗ owesLow (F := F) B c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V B) launch1.win launch1.arr_whole c
      ((pdats V B 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesLow Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V B 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V B 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V B) ((pdats V B 0 c).share_full fun _ => rfl) (V c) (Vp c) ((pdats V B 0 c).arrAt · cfg1.N)
      (fun w => by
        fin_cases w
        · exact ((pdats V B 0 c).arrAt_in 0 rfl _).trans (hne c main_v2 (by decide)).symm
        · exact ((pdats V B 0 c).arrAt_in 1 rfl _).trans (hne c main_v4 (by decide)).symm
        · exact ((pdats V B 0 c).arrAt_in 2 rfl _).trans (hne c main_v7 (by decide)).symm
        · exact ((pdats V B 0 c).arrAt_in 3 rfl _).trans (hne c main_v8 (by decide)).symm
        · exact ((pdats V B 0 c).arrAt_in 4 rfl _).trans (hne c main_v9 (by decide)).symm
        · exact ((pdats V B 0 c).arrAt_in 5 rfl _).trans (hne c main_v10 (by decide)).symm
        · exact ((pdats V B 0 c).arrAt_in 6 rfl _).trans (hne c main_v11 (by decide)).symm
        · exact ((pdats V B 0 c).arrAt_in 7 rfl _).trans (hne c main_v12 (by decide)).symm
        · exact ((pdats V B 0 c).arrAt_in 8 rfl _).trans (hne c main_v13 (by decide)).symm
        · exact ((pdats V B 0 c).arrAt_in 9 rfl _).trans (hne c main_v14 (by decide)).symm
        · exact ((pdats V B 0 c).arrAt_in 10 rfl _).trans (hne c main_v15 (by decide)).symm
        · exact ((pdats V B 0 c).arrAt_in 11 rfl _).trans (hne c main_v16 (by decide)).symm
        · exact (layers_eq V B c).trans (hout c).symm)
      (fun b hb => hne c b fun h => hb (h ▸ Finset.mem_image.mpr ⟨12, Finset.mem_univ _, rfl⟩))
    iintro ⟨Ha, HO, -, Hrest⟩
    imodintro
    isplitl [Ha Hrest]
    · iapply hjoin; isplitl [Ha] <;> iassumption
    unfold owesLow Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

end Cert.Proof.Counts

end
-- ==== Proof.Ops.lean ====
/-
  The entry's host operations as three lists, around its two calls; that they name unscoped arrays only; and the entry's text as those lists.
-/
module

public import proofs.«01_k».proof.Proof.Region

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.StableHlo (seq seqK after)

variable {F : FTy → Type} [FloatOps F] [Named F]

local notation "𝕄" => MT nD τ sig (HIx 1) (Elt F) ℕ UU ℕ

theorem mem_uc (r : Ref sig .tc) (h : ¬ (Proc.devRef .tc r : DevRef τ sig).isScoped) : (Proc.devRef .tc r : DevRef τ sig) ∈ ucRefs :=
  Finset.mem_filter.mpr ⟨Finset.mem_map.mpr ⟨r, Finset.mem_univ _, rfl⟩, h⟩

theorem sub1 {b : DevRef τ sig} (hb : b ∈ ucRefs) : ({b} : Finset (DevRef τ sig)) ⊆ ucRefs := Finset.singleton_subset_iff.mpr hb
theorem sub2 {a b : DevRef τ sig} (ha : a ∈ ucRefs) (hb : b ∈ ucRefs) : ({a, b} : Finset (DevRef τ sig)) ⊆ ucRefs :=
  Finset.insert_subset ha (sub1 hb)
theorem sub3 {a b c : DevRef τ sig} (ha : a ∈ ucRefs) (hb : b ∈ ucRefs) (hc : c ∈ ucRefs) : ({a, b, c} : Finset (DevRef τ sig)) ⊆ ucRefs :=
  Finset.insert_subset ha (sub2 hb hc)

/-- The operations before the counting call. -/
abbrev ops1 : List (HloOp τ sig (Elt F)) :=
  [ StableHlo.nullary main_c (constantI S_ 32 5002#32),
    StableHlo.unary main_c main_v0 (broadcastInDim S4096x14 ![] bcast_S_S4096x14 : (⟨S_, .i32⟩ : BufTy).Contents (Elt F) → (⟨S4096x14, .i32⟩ : BufTy).Contents (Elt F)),
    StableHlo.binary main_arg0 main_v0 main_v1 ((fun a b => concatenate S4096x64 1 [⟨S4096x50, a⟩, ⟨S4096x14, b⟩] concatenates_S4096x50_S4096x14_S4096x64_d1) : (⟨S4096x50, .i32⟩ : BufTy).Contents (Elt F) → (⟨S4096x14, .i32⟩ : BufTy).Contents (Elt F) → (⟨S4096x64, .i32⟩ : BufTy).Contents (Elt F)) ]

/-- The arrays they write. -/
abbrev wr1 : List (Ref sig .tc) := [main_c, main_v0, main_v1]

theorem ops1_sub : ∀ op ∈ (ops1 : List (HloOp τ sig (Elt F))), op.bufs ⊆ ucRefs :=
  List.forall_iff_forall_mem.mp ⟨sub1 (mem_uc main_c (by decide)),
    sub2 (mem_uc main_c (by decide)) (mem_uc main_v0 (by decide)),
    sub3 (mem_uc main_arg0 (by decide)) (mem_uc main_v0 (by decide)) (mem_uc main_v1 (by decide))⟩

theorem ops1_fresh : ∀ op ∈ (ops1 : List (HloOp τ sig (Elt F))), op.fresh = ∅ :=
  List.forall_iff_forall_mem.mp (StableHlo.forall_fresh_of_map (ops := ops1 (F := F)) rfl)

theorem ops1_of (V : Valuation τ sig (Elt F)) (r : Ref sig .tc) (h : r ∉ wr1) : after (ops1 (F := F)) V (Proc.devRef .tc r) = V (Proc.devRef .tc r) :=
  StableHlo.after_of_writes_sub (W := wr1) ops1 V (StableHlo.forall_writes_sub_of_map (W := wr1) (ops := ops1 (F := F)) rfl) h

/-- The operations between the two calls. -/
abbrev ops2 : List (HloOp τ sig (Elt F)) :=
  [ StableHlo.nullary main_c_0 (constantI S_ 32 0#32),
    StableHlo.TRef.unary (StableHlo.TRef.of (T := ⟨S_, .i32⟩) main_c_0) (StableHlo.TRef.of (T := ⟨S_, .f32⟩) main_call0_v0) (sitofp .f32),
    StableHlo.TRef.binary (StableHlo.TRef.of (T := ⟨S5002x800, .f32⟩) main_arg1) (StableHlo.TRef.of (T := ⟨S_, .f32⟩) main_call0_v0) (StableHlo.TRef.of (T := ⟨S5008x800, .f32⟩) main_v3) (fun x v => pad S5008x800 ![0, 0] ![6, 0] ![0, 0] x v pads_S5002x800_S5008x800_060_000 h_S_),
    StableHlo.unary main_v3 main_v4 ((truncf .bf16 · bitsLt_bf16_f32) : (⟨S5008x800, .f32⟩ : BufTy).Contents (Elt F) → (⟨S5008x800, .bf16⟩ : BufTy).Contents (Elt F)),
    StableHlo.nullary main_c_1 (constantI S_ 32 0#32),
    StableHlo.TRef.unary (StableHlo.TRef.of (T := ⟨S_, .i32⟩) main_c_1) (StableHlo.TRef.of (T := ⟨S_, .f32⟩) main_call1_v0) (sitofp .f32),
    StableHlo.TRef.binary (StableHlo.TRef.of (T := ⟨S256x2, .f32⟩) main_arg10) (StableHlo.TRef.of (T := ⟨S_, .f32⟩) main_call1_v0) (StableHlo.TRef.of (T := ⟨S256x128, .f32⟩) main_v5) (fun x v => pad S256x128 ![0, 0] ![0, 126] ![0, 0] x v pads_S256x2_S256x128_000_01260 h_S_),
    StableHlo.nullary main_c_2 (constantI S_ 32 0#32),
    StableHlo.TRef.unary (StableHlo.TRef.of (T := ⟨S_, .i32⟩) main_c_2) (StableHlo.TRef.of (T := ⟨S_, .f32⟩) main_call2_v0) (sitofp .f32),
    StableHlo.TRef.binary (StableHlo.TRef.of (T := ⟨S2, .f32⟩) main_arg11) (StableHlo.TRef.of (T := ⟨S_, .f32⟩) main_call2_v0) (StableHlo.TRef.of (T := ⟨S128, .f32⟩) main_v6) (fun x v => pad S128 ![0] ![126] ![0] x v pads_S2_S128_01260 h_S_),
    StableHlo.unary main_arg2 main_v7 ((truncf .bf16 · bitsLt_bf16_f32) : (⟨S800x2048, .f32⟩ : BufTy).Contents (Elt F) → (⟨S800x2048, .bf16⟩ : BufTy).Contents (Elt F)),
    StableHlo.reshape main_arg3 main_v8 (rfl : (.f32 : EltTy) = .f32) shapeCasts_S2048_S1x2048,
    StableHlo.unary main_arg4 main_v9 ((truncf .bf16 · bitsLt_bf16_f32) : (⟨S2048x1024, .f32⟩ : BufTy).Contents (Elt F) → (⟨S2048x1024, .bf16⟩ : BufTy).Contents (Elt F)),
    StableHlo.reshape main_arg5 main_v10 (rfl : (.f32 : EltTy) = .f32) shapeCasts_S1024_S1x1024,
    StableHlo.unary main_arg6 main_v11 ((truncf .bf16 · bitsLt_bf16_f32) : (⟨S1024x512, .f32⟩ : BufTy).Contents (Elt F) → (⟨S1024x512, .bf16⟩ : BufTy).Contents (Elt F)),
    StableHlo.reshape main_arg7 main_v12 (rfl : (.f32 : EltTy) = .f32) shapeCasts_S512_S1x512,
    StableHlo.unary main_arg8 main_v13 ((truncf .bf16 · bitsLt_bf16_f32) : (⟨S512x256, .f32⟩ : BufTy).Contents (Elt F) → (⟨S512x256, .bf16⟩ : BufTy).Contents (Elt F)),
    StableHlo.reshape main_arg9 main_v14 (rfl : (.f32 : EltTy) = .f32) shapeCasts_S256_S1x256,
    StableHlo.unary main_v5 main_v15 ((truncf .bf16 · bitsLt_bf16_f32) : (⟨S256x128, .f32⟩ : BufTy).Contents (Elt F) → (⟨S256x128, .bf16⟩ : BufTy).Contents (Elt F)),
    StableHlo.reshape main_v6 main_v16 (rfl : (.f32 : EltTy) = .f32) shapeCasts_S128_S1x128 ]

/-- The arrays they write. -/
abbrev wr2 : List (Ref sig .tc) := [main_c_0, main_call0_v0, main_v3, main_v4, main_c_1, main_call1_v0, main_v5, main_c_2, main_call2_v0, main_v6, main_v7, main_v8, main_v9, main_v10, main_v11, main_v12, main_v13, main_v14, main_v15, main_v16]

theorem ops2_sub : ∀ op ∈ (ops2 : List (HloOp τ sig (Elt F))), op.bufs ⊆ ucRefs :=
  List.forall_iff_forall_mem.mp ⟨sub1 (mem_uc main_c_0 (by decide)),
    sub2 (mem_uc main_c_0 (by decide)) (mem_uc main_call0_v0 (by decide)),
    sub3 (mem_uc main_arg1 (by decide)) (mem_uc main_call0_v0 (by decide)) (mem_uc main_v3 (by decide)),
    sub2 (mem_uc main_v3 (by decide)) (mem_uc main_v4 (by decide)),
    sub1 (mem_uc main_c_1 (by decide)),
    sub2 (mem_uc main_c_1 (by decide)) (mem_uc main_call1_v0 (by decide)),
    sub3 (mem_uc main_arg10 (by decide)) (mem_uc main_call1_v0 (by decide)) (mem_uc main_v5 (by decide)),
    sub1 (mem_uc main_c_2 (by decide)),
    sub2 (mem_uc main_c_2 (by decide)) (mem_uc main_call2_v0 (by decide)),
    sub3 (mem_uc main_arg11 (by decide)) (mem_uc main_call2_v0 (by decide)) (mem_uc main_v6 (by decide)),
    sub2 (mem_uc main_arg2 (by decide)) (mem_uc main_v7 (by decide)),
    sub2 (mem_uc main_arg3 (by decide)) (mem_uc main_v8 (by decide)),
    sub2 (mem_uc main_arg4 (by decide)) (mem_uc main_v9 (by decide)),
    sub2 (mem_uc main_arg5 (by decide)) (mem_uc main_v10 (by decide)),
    sub2 (mem_uc main_arg6 (by decide)) (mem_uc main_v11 (by decide)),
    sub2 (mem_uc main_arg7 (by decide)) (mem_uc main_v12 (by decide)),
    sub2 (mem_uc main_arg8 (by decide)) (mem_uc main_v13 (by decide)),
    sub2 (mem_uc main_arg9 (by decide)) (mem_uc main_v14 (by decide)),
    sub2 (mem_uc main_v5 (by decide)) (mem_uc main_v15 (by decide)),
    sub2 (mem_uc main_v6 (by decide)) (mem_uc main_v16 (by decide))⟩

theorem ops2_fresh : ∀ op ∈ (ops2 : List (HloOp τ sig (Elt F))), op.fresh = ∅ :=
  List.forall_iff_forall_mem.mp (StableHlo.forall_fresh_of_map (ops := ops2 (F := F)) rfl)

theorem ops2_of (V : Valuation τ sig (Elt F)) (r : Ref sig .tc) (h : r ∉ wr2) : after (ops2 (F := F)) V (Proc.devRef .tc r) = V (Proc.devRef .tc r) :=
  StableHlo.after_of_writes_sub (W := wr2) ops2 V (StableHlo.forall_writes_sub_of_map (W := wr2) (ops := ops2 (F := F)) rfl) h

/-- The operations after the layers' call. -/
abbrev ops3 : List (HloOp τ sig (Elt F)) :=
  [ StableHlo.unary main_v17 main_v18 ((extractStridedSlice S4096x2 ![0, 0] · slices_S4096x128_S4096x2_0_0) : (⟨S4096x128, .f32⟩ : BufTy).Contents (Elt F) → (⟨S4096x2, .f32⟩ : BufTy).Contents (Elt F)) ]

/-- The arrays they write. -/
abbrev wr3 : List (Ref sig .tc) := [main_v18]

theorem ops3_sub : ∀ op ∈ (ops3 : List (HloOp τ sig (Elt F))), op.bufs ⊆ ucRefs :=
  List.forall_iff_forall_mem.mp (sub2 (mem_uc main_v17 (by decide)) (mem_uc main_v18 (by decide)))

theorem ops3_fresh : ∀ op ∈ (ops3 : List (HloOp τ sig (Elt F))), op.fresh = ∅ :=
  List.forall_iff_forall_mem.mp (StableHlo.forall_fresh_of_map (ops := ops3 (F := F)) rfl)

theorem ops3_of (V : Valuation τ sig (Elt F)) (r : Ref sig .tc) (h : r ∉ wr3) : after (ops3 (F := F)) V (Proc.devRef .tc r) = V (Proc.devRef .tc r) :=
  StableHlo.after_of_writes_sub (W := wr3) ops3 V (StableHlo.forall_writes_sub_of_map (W := wr3) (ops := ops3 (F := F)) rfl) h

set_option maxRecDepth 8192 in
theorem main_eq (d : Dev nD) : main (F := F) d = seqK ops1 ((K (F := F)).run d 0 >>= fun _ =>
    seqK ops2 (Prog.op (.customCall (SparseCore.inner (Pipeline.entry 0)) ()) .ret >>= fun _ => seqK ops3 (.ret ⟨⟩))) := rfl

end Cert.Proof.Counts

end
-- ==== Proof.ZeroLoops.lean ====
/-
  The two loops that clear a tile's blocks: a trip stores sixteen zeros, a row is 313 trips, a block is eight rows.
-/
module

public import proofs.«01_k».proof.Proof.RowLoops

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The block is zero above row `t`, and on row `t` before column `x`. -/
def Zt (G : Vec F S8x5008 .f32) (t x : ℕ) : Prop := ∀ j : S8x5008.Idx, ((j 0).val < t ∨ ((j 0).val = t ∧ (j 1).val < x)) → G j = zf

def hz (d : Dev nD) (c : Fin τ.nSC) (j : Fin τ.nSub) (b : Memref sig .scVector .vmem S8x5008 .f32) (t x : ℕ) : sProp 𝕄 :=
  iprop(∃ G, ⌜Zt (F := F) G t x⌝ ∗ hd d c j b G)

theorem hz_row (d : Dev nD) (c : Fin τ.nSC) (j : Fin τ.nSub) (b : Memref sig .scVector .vmem S8x5008 .f32) (t : ℕ) :
    (hz d c j b t (16 * 313) : sProp 𝕄) ⊢ hz d c j b (t + 1) (16 * 0) := by
  unfold hz
  iintro ⟨%G, %h, H⟩
  iexists G
  isplitr; · ipureintro; intro j hj; refine h j ?_; have : (j 1).val < 5008 := (j 1).isLt; omega
  iexact H

theorem hz_all (d : Dev nD) (c : Fin τ.nSC) (j : Fin τ.nSub) (b : Memref sig .scVector .vmem S8x5008 .f32) (I : S128x64.Idx → BitVec 32) (off : ℕ) :
    (hz d c j b 8 (16 * 0) : sProp 𝕄) ⊢ hd d c j b (blkN I off 0) := by
  unfold hz
  iintro ⟨%G, %h, H⟩
  rw [show (blkN I off 0 : Vec F S8x5008 .f32) = G from by funext j; exact (h j (Or.inl (j 0).isLt)).symm]
  iexact H

theorem hz_start (d : Dev nD) (c : Fin τ.nSC) (j : Fin τ.nSub) (b : Memref sig .scVector .vmem S8x5008 .f32) (G : Vec F S8x5008 .f32) :
    (hd d c j b G : sProp 𝕄) ⊢ hz d c j b 0 (16 * 0) := by
  unfold hz
  iintro H
  iexists G
  isplitr; · ipureintro; intro j hj; omega
  iexact H

section Step

variable (d : Dev nD) (c : Fin τ.nSC) (j : Fin τ.nSub) {b : Memref sig .scVector .vmem S8x5008 .f32}

/-- The block with sixteen zeros more. -/
def zput (G : Vec F S8x5008 .f32) (t k : ℕ) : Vec F S8x5008 .f32 := fun y => if (y 0).val = t ∧ 16 * k ≤ (y 1).val ∧ (y 1).val < 16 * k + 16 then zf else G y

theorem zput_in (G : Vec F S8x5008 .f32) (t k : ℕ) {off : Fin 2 → ℕ} (inb : ∀ a, off a + S1x16.size a ≤ S8x5008.size a) (h0 : off 0 = t) (h1 : off 1 = 16 * k) (x : S1x16.Idx) :
    zput G t k ((Rect.unit (s := S8x5008) off S1x16.size inb).emb x) = shapeCast S1x16 (k0_pay1 (F := F)) shapeCasts_S16_S1x16 x := by
  have e0 : (((Rect.unit (s := S8x5008) off S1x16.size inb).emb x) 0).val = off 0 + 1 * (x 0).val := rfl
  have e1 : (((Rect.unit (s := S8x5008) off S1x16.size inb).emb x) 1).val = off 1 + 1 * (x 1).val := rfl
  have l0 : (x 0).val < 1 := (x 0).isLt
  have l1 : (x 1).val < 16 := (x 1).isLt
  exact if_pos (by omega)

theorem zput_out (G : Vec F S8x5008 .f32) (t k : ℕ) {off : Fin 2 → ℕ} (inb : ∀ a, off a + S1x16.size a ≤ S8x5008.size a) (h0 : off 0 = t) (h1 : off 1 = 16 * k) (y : S8x5008.Idx)
    (hy : y ∉ (Rect.unit (s := S8x5008) off S1x16.size inb).set) : zput G t k y = G y := by
  refine if_neg fun hc => hy ?_
  rw [← Rect.map_emb_univ]
  refine Finset.mem_map.mpr ⟨(fun a => match a with | ⟨0, _⟩ => ⟨0, Nat.one_pos⟩ | ⟨1, _⟩ => ⟨(y 1).val - 16 * k, show _ < 16 by omega⟩ : S1x16.Idx), Finset.mem_univ _, ?_⟩
  refine funext fun a => Fin.ext ?_
  match a with
  | ⟨0, _⟩ => show off 0 + 1 * 0 = (y 0).val; omega
  | ⟨1, _⟩ => show off 1 + 1 * ((y 1).val - 16 * k) = (y 1).val; omega

theorem Zt_put (G : Vec F S8x5008 .f32) (t k : ℕ) (h : Zt G t (16 * k)) : Zt (zput G t k) t (16 * (k + 1)) := by
  intro y hy
  by_cases hc : (y 0).val = t ∧ 16 * k ≤ (y 1).val ∧ (y 1).val < 16 * k + 16
  · exact if_pos hc
  · exact (if_neg hc).trans (h y (by omega))

theorem wp_zput {off : Fin 2 → ℕ} {inb : ∀ a, off a + S1x16.size a ≤ S8x5008.size a} {hl : b.view.LoadsAt (Rect.unit (s := S8x5008) off S1x16.size inb).toLoadRect}
    {w : (Rect.unit (s := S8x5008) off S1x16.size inb).shape.Idx → Elt F .f32} {hx : (b.access (Rect.unit (s := S8x5008) off S1x16.size inb)).Stores Finset.univ}
    {hm : Finset.univ = Finset.univ ∨ ∀ a, (Rect.unit (s := S8x5008) off S1x16.size inb).stride a = 1} (G G' : Vec F S8x5008 .f32)
    (h₁ : ∀ x, G' ((Rect.unit (s := S8x5008) off S1x16.size inb).emb x) = w x) (h₂ : ∀ y, y ∉ (Rect.unit (s := S8x5008) off S1x16.size inb).set → G' y = G y)
    {α : Type} {Q : α → sProp (MT nD τ sig (HIx 1) (Elt F) ℕ UU ℕ)} {k : PUnit → Prog (TpuEff nD τ sig (Elt F) Λ₀ (.scVector c j)) α} :
    (hd d c j b G : sProp 𝕄) ⊢ iprop((hd d c j b G' -∗ wp frame (wpE (defs₀ (F := F)) 𝒱₀ (V d c j) none) Set.univ (k ⟨⟩) Q)
      -∗ wp frame (wpE (defs₀ (F := F)) 𝒱₀ (V d c j) none) Set.univ
        (Prog.lift (.load b (Rect.unit (s := S8x5008) off S1x16.size inb).toLoadRect hl) >>= fun _ =>
          Prog.lift (.store b (Rect.unit (s := S8x5008) off S1x16.size inb) w Finset.univ hx hm) >>= k) Q) := by
  iintro H Hk
  iapply (wp_hd_load (F := F) d c j (b := b) (G := G) (r := Rect.unit (s := S8x5008) off S1x16.size inb) (hl := hl) (Q := Q)
    (k := fun _ => Prog.lift (.store b (Rect.unit (s := S8x5008) off S1x16.size inb) w Finset.univ hx hm) >>= k)) $$ H
  iintro H
  iapply (wp_hd_store (F := F) d c j (b := b) (G := G) (r := Rect.unit (s := S8x5008) off S1x16.size inb) (w := w) (hx := hx) (hm := hm) (Q := Q)
    (k := k) G' h₁ h₂) $$ H
  iintro H
  iapply Hk
  iexact H

end Step

variable (d : Dev nD) (L : grid0.Coords)
variable (arg2 : Memref sig .scVector .hbm S4096x64 .i32) (harg2 : arg2.IsWhole) (arg3 : Memref sig .scVector .hbm S4096x5008 .f32) (harg3 : arg3.IsWhole)
  (arg4 : Memref sig .scVector .vmem S128x64 .i32) (harg4 : arg4.IsWhole) (arg5 : Memref sig .scVector .vmem S8x5008 .f32) (harg5 : arg5.IsWhole)
  (arg6 : Memref sig .scVector .vmem S8x5008 .f32) (harg6 : arg6.IsWhole) (arg7 arg8 v11_r0 : DmaSems sig S_)

theorem trips_t1 : k0_t1_loop.trips = 8 := by decide +kernel
theorem trips_t2 : k0_t2_loop.trips = 313 := by decide +kernel

theorem t1_trip (n : Fin k0_t1_loop.trips) (u : Unit) :
    (hz d (cV L) (jV L) arg5 n.val (16 * 0) : sProp 𝕄) ⊢ wp frame (wpE (defs₀ (F := F)) 𝒱₀ (V d (cV L) (jV L)) none) Set.univ
      (k0_t1_body (F := F) L arg2 harg2 arg3 harg3 arg4 harg4 arg5 harg5 arg6 harg6 arg7 arg8 v11_r0 n u) fun _ => hz d (cV L) (jV L) arg5 (n.val + 1) (16 * 0) := by
  unfold k0_t1_body
  iintro H
  iapply (Scf.wp_for_bind frame (wpE (defs₀ (F := F)) 𝒱₀ (V d (cV L) (jV L)) none) Set.univ k0_t2_loop.lb k0_t2_loop.ub k0_t2_loop.st k0_t2_ok ⟨⟩ _
    (fun k _ => hz (F := F) d (cV L) (jV L) arg5 n.val (16 * k)) (fun k u => by
      unfold k0_t2_body hz
      iintro ⟨%G, %h, H⟩
      iapply (wp_zput (F := F) d (cV L) (jV L) G (zput G n.val k.val)
        (zput_in (F := F) G n.val k.val (off := k0_off2 n k) (k0_off2_inb n k) (by rw [k0_off2_eq]; rfl) (by rw [k0_off2_eq]; rfl))
        (zput_out (F := F) G n.val k.val (off := k0_off2 n k) (k0_off2_inb n k) (by rw [k0_off2_eq]; rfl) (by rw [k0_off2_eq]; rfl))) $$ H
      iintro H
      rw [wp_pure]
      imodintro
      iexists (zput G n.val k.val)
      isplitr; · ipureintro; exact Zt_put (F := F) G n.val k.val h
      iexact H)) $$ H
  iintro %u' H
  rw [wp_pure]
  imodintro
  iapply (hz_row (F := F) d (cV L) (jV L) arg5 n.val)
  rw [show Scf.trips k0_t2_loop.lb k0_t2_loop.ub k0_t2_loop.st = 313 from trips_t2]
  iexact H

theorem t1_loop (G : Vec F S8x5008 .f32) (I : S128x64.Idx → BitVec 32) (off : ℕ) {α : Type} {kk : Unit → Prog (TpuEff nD τ sig (Elt F) Λ₀ (.scVector (cV L) (jV L))) α} {Q : α → sProp (MT nD τ sig (HIx 1) (Elt F) ℕ UU ℕ)} :
    (hd d (cV L) (jV L) arg5 G : sProp 𝕄) ⊢ iprop((hd d (cV L) (jV L) arg5 (blkN I off 0) -∗ wp frame (wpE (defs₀ (F := F)) 𝒱₀ (V d (cV L) (jV L)) none) Set.univ (kk ⟨⟩) Q)
      -∗ wp frame (wpE (defs₀ (F := F)) 𝒱₀ (V d (cV L) (jV L)) none) Set.univ
      (Scf.Loop.for k0_t1_loop k0_t1_ok ⟨⟩ (k0_t1_body (F := F) L arg2 harg2 arg3 harg3 arg4 harg4 arg5 harg5 arg6 harg6 arg7 arg8 v11_r0) >>= kk) Q) := by
  iintro H Hk
  ihave H := (hz_start (F := F) d (cV L) (jV L) arg5 G) $$ H
  iapply (Scf.wp_for_bind frame (wpE (defs₀ (F := F)) 𝒱₀ (V d (cV L) (jV L)) none) Set.univ k0_t1_loop.lb k0_t1_loop.ub k0_t1_loop.st k0_t1_ok ⟨⟩ _
    (fun k _ => hz (F := F) d (cV L) (jV L) arg5 k (16 * 0)) (fun k u => t1_trip (F := F) d L arg2 harg2 arg3 harg3 arg4 harg4 arg5 harg5 arg6 harg6 arg7 arg8 v11_r0 k u)) $$ H
  iintro %u' H
  rw [show Scf.trips k0_t1_loop.lb k0_t1_loop.ub k0_t1_loop.st = 8 from trips_t1]
  ihave H := (hz_all (F := F) d (cV L) (jV L) arg5 I off) $$ H
  iapply Hk
  iexact H

theorem trips_t3 : k0_t3_loop.trips = 8 := by decide +kernel
theorem trips_t4 : k0_t4_loop.trips = 313 := by decide +kernel

theorem t3_trip (n : Fin k0_t3_loop.trips) (u : Unit) :
    (hz d (cV L) (jV L) arg6 n.val (16 * 0) : sProp 𝕄) ⊢ wp frame (wpE (defs₀ (F := F)) 𝒱₀ (V d (cV L) (jV L)) none) Set.univ
      (k0_t3_body (F := F) L arg2 harg2 arg3 harg3 arg4 harg4 arg5 harg5 arg6 harg6 arg7 arg8 v11_r0 n u) fun _ => hz d (cV L) (jV L) arg6 (n.val + 1) (16 * 0) := by
  unfold k0_t3_body
  iintro H
  iapply (Scf.wp_for_bind frame (wpE (defs₀ (F := F)) 𝒱₀ (V d (cV L) (jV L)) none) Set.univ k0_t4_loop.lb k0_t4_loop.ub k0_t4_loop.st k0_t4_ok ⟨⟩ _
    (fun k _ => hz (F := F) d (cV L) (jV L) arg6 n.val (16 * k)) (fun k u => by
      unfold k0_t4_body hz
      iintro ⟨%G, %h, H⟩
      iapply (wp_zput (F := F) d (cV L) (jV L) G (zput G n.val k.val)
        (zput_in (F := F) G n.val k.val (off := k0_off3 n k) (k0_off3_inb n k) (by rw [k0_off3_eq]; rfl) (by rw [k0_off3_eq]; rfl))
        (zput_out (F := F) G n.val k.val (off := k0_off3 n k) (k0_off3_inb n k) (by rw [k0_off3_eq]; rfl) (by rw [k0_off3_eq]; rfl))) $$ H
      iintro H
      rw [wp_pure]
      imodintro
      iexists (zput G n.val k.val)
      isplitr; · ipureintro; exact Zt_put (F := F) G n.val k.val h
      iexact H)) $$ H
  iintro %u' H
  rw [wp_pure]
  imodintro
  iapply (hz_row (F := F) d (cV L) (jV L) arg6 n.val)
  rw [show Scf.trips k0_t4_loop.lb k0_t4_loop.ub k0_t4_loop.st = 313 from trips_t4]
  iexact H

theorem t3_loop (G : Vec F S8x5008 .f32) (I : S128x64.Idx → BitVec 32) (off : ℕ) {α : Type} {kk : Unit → Prog (TpuEff nD τ sig (Elt F) Λ₀ (.scVector (cV L) (jV L))) α} {Q : α → sProp (MT nD τ sig (HIx 1) (Elt F) ℕ UU ℕ)} :
    (hd d (cV L) (jV L) arg6 G : sProp 𝕄) ⊢ iprop((hd d (cV L) (jV L) arg6 (blkN I off 0) -∗ wp frame (wpE (defs₀ (F := F)) 𝒱₀ (V d (cV L) (jV L)) none) Set.univ (kk ⟨⟩) Q)
      -∗ wp frame (wpE (defs₀ (F := F)) 𝒱₀ (V d (cV L) (jV L)) none) Set.univ
      (Scf.Loop.for k0_t3_loop k0_t3_ok ⟨⟩ (k0_t3_body (F := F) L arg2 harg2 arg3 harg3 arg4 harg4 arg5 harg5 arg6 harg6 arg7 arg8 v11_r0) >>= kk) Q) := by
  iintro H Hk
  ihave H := (hz_start (F := F) d (cV L) (jV L) arg6 G) $$ H
  iapply (Scf.wp_for_bind frame (wpE (defs₀ (F := F)) 𝒱₀ (V d (cV L) (jV L)) none) Set.univ k0_t3_loop.lb k0_t3_loop.ub k0_t3_loop.st k0_t3_ok ⟨⟩ _
    (fun k _ => hz (F := F) d (cV L) (jV L) arg6 k (16 * 0)) (fun k u => t3_trip (F := F) d L arg2 harg2 arg3 harg3 arg4 harg4 arg5 harg5 arg6 harg6 arg7 arg8 v11_r0 k u)) $$ H
  iintro %u' H
  rw [show Scf.trips k0_t3_loop.lb k0_t3_loop.ub k0_t3_loop.st = 8 from trips_t3]
  ihave H := (hz_all (F := F) d (cV L) (jV L) arg6 I off) $$ H
  iapply Hk
  iexact H

end Cert.Proof.Counts

end
-- ==== Proof.Copies.lean ====
/-
  A tile's copies of its blocks out: the rows a copy writes, its issue, and its wait.
-/
module

public import proofs.«01_k».proof.Proof.ZeroLoops

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The counts array as a tile names it. -/
abbrev oM : Memref sig .scVector .hbm S4096x5008 .f32 := Memref.whole main_v2_scv

/-- Rows `a ≤ · < b` of the counts array. -/
def orows (a b : ℕ) : Finset S4096x5008.Idx := Finset.univ.filter fun i => a ≤ (i 0).val ∧ (i 0).val < b

theorem mem_orows {a b : ℕ} {i : S4096x5008.Idx} : i ∈ orows a b ↔ a ≤ (i 0).val ∧ (i 0).val < b := by simp [orows]

/-- Those rows held at `f`. -/
def oP (d : Dev nD) (c : Fin τ.nSC) (j : Fin τ.nSub) (a b : ℕ) (f : S4096x5008.Idx → F .f32) : sProp 𝕄 :=
  iprop(oM.view.loc (V d c j) ↦[orows a b]{fullShare} f)

variable (d : Dev nD) (c : Fin τ.nSC) (j : Fin τ.nSub)

theorem oP_empty (a b : ℕ) (h : b ≤ a) (f : S4096x5008.Idx → F .f32) : (oP d c j a b f : sProp 𝕄) = iprop(emp) := by
  unfold oP
  rw [show orows a b = ∅ from Finset.eq_empty_of_forall_notMem fun i hi => by have := mem_orows.mp hi; omega]
  exact pointsTo_empty

theorem oP_split (a b e : ℕ) (h : a ≤ b) (h' : b ≤ e) (f : S4096x5008.Idx → F .f32) : (oP d c j a e f : sProp 𝕄) ⊣⊢ iprop(oP d c j a b f ∗ oP d c j b e f) := by
  unfold oP
  rw [show orows a e = orows a b ∪ orows b e from Finset.ext fun i => by simp only [Finset.mem_union, mem_orows]; omega]
  exact pointsTo_union (Finset.disjoint_left.mpr fun i hi hi' => by have := mem_orows.mp hi; have := mem_orows.mp hi'; omega)

theorem oP_congr (a b : ℕ) {f g : S4096x5008.Idx → F .f32} (h : ∀ i, a ≤ (i 0).val → (i 0).val < b → f i = g i) : (oP d c j a b f : sProp 𝕄) = oP d c j a b g :=
  pointsTo_congr fun i hi => h i (mem_orows.mp hi).1 (mem_orows.mp hi).2

/-- The units a block's copy credits. -/
def cr8 : ℕ := (main_v2_scv : Ref sig .scVector).dmaCredit S8x5008 .f32

section Rules

variable {b : Memref sig .scVector .vmem S8x5008 .f32} {G : Vec F S8x5008 .f32} {α : Type} {Q : α → sProp (MT nD τ sig (HIx 1) (Elt F) ℕ UU ℕ)}
  {off : Fin 2 → ℕ} {inb : ∀ a, off a + S8x5008.size a ≤ S4096x5008.size a}

theorem set_blk (a : ℕ) (h0 : off 0 = a) (h1 : off 1 = 0) :
    (oM.slice (Rect.unit (s := S4096x5008) off S8x5008.size inb) (fun _ => rfl)).view.set = orows a (a + 8) := by
  refine (View.set_slice_whole _ _).trans (Finset.ext fun i => ?_)
  rw [Rect.mem_set_unit, mem_orows]
  constructor
  · intro h
    have := h 0
    rw [h0] at this
    exact this
  · intro h a'
    match a' with
    | ⟨0, _⟩ => show off 0 ≤ _ ∧ _ < off 0 + 8; rw [h0]; exact h
    | ⟨1, _⟩ =>
      have hi : (i 1).val < 5008 := (i 1).isLt
      show off 1 ≤ (i 1).val ∧ (i 1).val < off 1 + 5008
      omega

theorem write_blk (a : ℕ) (h0 : off 0 = a) (h1 : off 1 = 0) (f FIN : S4096x5008.Idx → F .f32)
    (hF : ∀ (y : S4096x5008.Idx) (x : S8x5008.Idx), (y 0).val = a + (x 0).val → (y 1).val = (x 1).val → FIN y = G x) (i : S4096x5008.Idx) (hi : i ∈ orows a (a + 8)) :
    (oM.slice (Rect.unit (s := S4096x5008) off S8x5008.size inb) (fun _ => rfl)).view.write (Elt F) f G Finset.univ i = FIN i := by
  rw [← set_blk (inb := inb) a h0 h1] at hi
  obtain ⟨x, -, rfl⟩ := Finset.mem_map.mp hi
  refine (View.write_emb_of_mem _ _ (Finset.mem_univ x)).trans ?_
  refine (hF _ x ?_ ?_).symm
  · show off 0 + 1 * (x 0).val = _; omega
  · show off 1 + 1 * (x 1).val = _; omega

theorem out_done (a : ℕ) (h0 : off 0 = a) (h1 : off 1 = 0) (f FIN : S4096x5008.Idx → F .f32)
    (hF : ∀ (y : S4096x5008.Idx) (x : S8x5008.Idx), (y 0).val = a + (x 0).val → (y 1).val = (x 1).val → FIN y = G x) (g : b.view.ty.Contents (Elt F)) (hg : b.view.read (Elt F) g = G) :
    (iprop(((oM.slice (Rect.unit (s := S4096x5008) off S8x5008.size inb) (fun _ => rfl)).view.loc (V d c j) ↦[orows a (a + 8)]{fullShare}
        ((oM.slice (Rect.unit (s := S4096x5008) off S8x5008.size inb) (fun _ => rfl)).view.write (Elt F) f ((ReadAs.same : ReadAs (Elt F) S8x5008 .f32 S8x5008 .f32).apply (b.view.read (Elt F) g)) Finset.univ))
      ∗ (b.view.loc (V d c j) ↦[b.view.set]{fullShare} g)) : sProp 𝕄)
      ⊢ iprop((oM.view.loc (V d c j) ↦[orows a (a + 8)]{fullShare} FIN) ∗ ∃ f', ⌜b.view.read (Elt F) f' = G⌝ ∗ b.view.loc (V d c j) ↦[b.view.set]{fullShare} f') := by
  subst hg
  refine BI.sep_mono ?_ ?_
  · exact Entails.of_eq (pointsTo_congr (write_blk (G := b.view.read (Elt F) g) (inb := inb) a h0 h1 f FIN hF))
  show (_ : sProp 𝕄) ⊢ _
  iintro Hb
  iexists g
  isplitr; · ipureintro; rfl
  iexact Hb

theorem wp_out {hs : b.view.WordExact} {hd' : (DmaTarget.here (oM.slice (Rect.unit (s := S4096x5008) off S8x5008.size inb) (fun _ => rfl)) : DmaTarget nD τ sig (.scVector c j) .hbm S8x5008 .f32).view.WordExact}
    {sm : SemLoc sig} {hsem : DmaTarget.Typed (nD := nD) .vmem sm (DmaTarget.here (oM.slice (Rect.unit (s := S4096x5008) off S8x5008.size inb) (fun _ => rfl)) : DmaTarget nD τ sig (.scVector c j) .hbm S8x5008 .f32)}
    (hN : (oM.slice (Rect.unit (s := S4096x5008) off S8x5008.size inb) (fun _ => rfl)).view.amount sm = cr8)
    {k : PUnit → Prog (TpuEff nD τ sig (Elt F) Λ₀ (.scVector c j)) α} (a : ℕ) (h0 : off 0 = a) (h1 : off 1 = 0) (f FIN : S4096x5008.Idx → F .f32)
    (hF : ∀ (y : S4096x5008.Idx) (x : S8x5008.Idx), (y 0).val = a + (x 0).val → (y 1).val = (x 1).val → FIN y = G x) :
    (iprop(hd d c j b G ∗ oP d c j a (a + 8) f ∗ semVal (V d c j, sm) 0) : sProp 𝕄)
      ⊢ iprop((Transfers.Flight countersEmb (V d c j) sm none cr8 iprop(oP d c j a (a + 8) FIN ∗ hd d c j b G) -∗ wp frame (wpE (defs₀ (F := F)) 𝒱₀ (V d c j) none) Set.univ (k ⟨⟩) Q)
        -∗ wp frame (wpE (defs₀ (F := F)) 𝒱₀ (V d c j) none) Set.univ
          (Prog.lift (.enqueueDma b (.here (oM.slice (Rect.unit (s := S4096x5008) off S8x5008.size inb) (fun _ => rfl))) sm hs hd' hsem) >>= k) Q) := by
  unfold hd oP
  iintro ⟨⟨%g, %hg, Hb⟩, Ho, Hv⟩ Hk
  iapply (Transfers.wp_dmaLocal (defs := defs₀ (F := F)) countersEmb 𝒱₀ (V d c j) none (none : HIx 1) cr8 hN (by decide)
    (src := b) (via := .same) (dst := oM.slice (Rect.unit (s := S4096x5008) off S8x5008.size inb) (fun _ => rfl)) (fs := g) (fd := f) (Sd := orows a (a + 8)) (le_of_eq (set_blk (inb := inb) a h0 h1))) $$ [Hb Ho Hv]
  · isplitl [Hb]; · iexact Hb
    isplitl [Ho]; · iexact Ho
    iexact Hv
  iintro Hfl
  iapply Hk
  iapply (Transfers.Flight_mono countersEmb (V d c j) (out_done (F := F) d c j (b := b) (G := G) (inb := inb) a h0 h1 f FIN hF g hg)) $$ Hfl

/-- What a tile owes, its waits so far recorded at no call's index. -/
def ow (O : CellTallies nD τ sig (HIx 1)) (W : Waits sig (HIx 1)) : sProp 𝕄 :=
  iprop(∃ W', ⌜∀ p ∈ W', p ∈ W ∨ p.2 = none⌝ ∗ owes (V d c j) O W')

theorem wp_wait {sp sp' : Space} {s s' : Shape} {e e' : EltTy} {src : Memref sig .scVector sp' s' e'} {dst : Memref sig .scVector sp s e} {hs : src.view.WordExact} {hd' : dst.view.WordExact}
    {sm : DmaSem sig} {N : ℕ} (hN : dst.view.dmaCredit = N) {k : PUnit → Prog (TpuEff nD τ sig (Elt F) Λ₀ (.scVector c j)) α} {D' : sProp (MT nD τ sig (HIx 1) (Elt F) ℕ UU ℕ)}
    (O : CellTallies nD τ sig (HIx 1)) (W : Waits sig (HIx 1)) (hO : ∀ g, O g none = 0) :
    (iprop(levAts (K (F := F)).L (K (F := F)).lev ∗ Transfers.Flight countersEmb (V d c j) (.dma sm) none N D' ∗ ow d c j O W) : sProp 𝕄)
      ⊢ iprop(((D' ∗ semVal (V d c j, .dma sm) 0 ∗ ow d c j O W) -∗ wp frame (wpE (defs₀ (F := F)) 𝒱₀ (V d c j) none) Set.univ (k ⟨⟩) Q)
        -∗ wp frame (wpE (defs₀ (F := F)) 𝒱₀ (V d c j) none) Set.univ (Prog.lift (.waitDma2 sm src dst hs hd') >>= k) Q) := by
  unfold ow
  iintro ⟨Hlv, Hfl, ⟨%W', %hW', HO⟩⟩ Hk
  ihave Hmw := ((K (F := F)).mayWait_none (thr := V d c j) (.dma sm) hO) $$ Hlv
  iapply (Transfers.wp_waitLocalO (defs := defs₀ (F := F)) countersEmb 𝒱₀ (V d c j) none (none : HIx 1) hN) $$ [Hfl HO Hmw]
  · isplitl [Hfl]; · iexact Hfl
    isplitl [HO]; · iexact HO
    iexact Hmw
  iintro ⟨HD, Hv, HO⟩
  iapply Hk
  isplitl [HD]; · iexact HD
  isplitl [Hv]; · iexact Hv
  iexists _
  isplitr
  swap; · iexact HO
  ipureintro
  intro p hp
  rcases Finset.mem_insert.mp hp with hp | hp
  · exact .inr (hp ▸ rfl)
  · exact hW' p hp

end Rules

end Cert.Proof.Counts

end
-- ==== Proof.MainLoop.lean ====
/-
  A tile's main loop: each trip waits for the two copies issued the trip before, counts eight rows into each block, and issues the two blocks' copies.
-/
module

public import proofs.«01_k».proof.Proof.Copies

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The first row of a tile. -/
def base (L : grid0.Coords) : ℕ := 256 * (L 1).val + 128 * (L 0).val

/-- The counts array as a tile with index block `I` leaves its rows. -/
def fin (L : grid0.Coords) (I : S128x64.Idx → BitVec 32) : S4096x5008.Idx → F .f32 := fun y => rv I ((y 0).val - base L) (y 1).val

theorem fin_blk (L : grid0.Coords) (I : S128x64.Idx → BitVec 32) (off n : ℕ) (y : S4096x5008.Idx) (x : S8x5008.Idx)
    (h0 : (y 0).val = base L + 16 * n + off + (x 0).val) (h1 : (y 1).val = (x 1).val) : (fin L I y : F .f32) = blkN I off (n + 1) x := by
  show rv I ((y 0).val - base L) (y 1).val = rv I (16 * n + off + (x 0).val) (x 1).val
  rw [h1, show (y 0).val - base L = 16 * n + off + (x 0).val by omega]

/-- A block before trip `n`: at rest before the first, and afterwards out on its copy. -/
def pend (d : Dev nD) (L : grid0.Coords) (b : Memref sig .scVector .vmem S8x5008 .f32) (sm : DmaSem sig) (I : S128x64.Idx → BitVec 32) (off : ℕ) : ℕ → sProp 𝕄
  | 0 => iprop(hd d (cV L) (jV L) b (blkN I off 0) ∗ semVal (V d (cV L) (jV L), .dma sm) 0)
  | n + 1 => Transfers.Flight countersEmb (V d (cV L) (jV L)) (.dma sm) none cr8
      iprop(oP d (cV L) (jV L) (base L + 16 * n + off) (base L + 16 * n + off + 8) (fin L I) ∗ hd d (cV L) (jV L) b (blkN I off (n + 1)))

theorem pend_succ (d : Dev nD) (L : grid0.Coords) (b : Memref sig .scVector .vmem S8x5008 .f32) (sm : DmaSem sig) (I : S128x64.Idx → BitVec 32) (off n : ℕ) :
    (pend d L b sm I off (n + 1) : sProp 𝕄) = Transfers.Flight countersEmb (V d (cV L) (jV L)) (.dma sm) none cr8
      iprop(oP d (cV L) (jV L) (base L + 16 * n + off) (base L + 16 * n + off + 8) (fin L I) ∗ hd d (cV L) (jV L) b (blkN I off (n + 1))) := rfl

/-- The rows the wait of trip `n` gives back. -/
def gotR (d : Dev nD) (L : grid0.Coords) (I : S128x64.Idx → BitVec 32) (off : ℕ) : ℕ → sProp 𝕄
  | 0 => iprop(emp)
  | n + 1 => oP d (cV L) (jV L) (base L + 16 * n + off) (base L + 16 * n + off + 8) (fin L I)

variable (d : Dev nD) (L : grid0.Coords)

theorem got_join (I : S128x64.Idx → BitVec 32) (n : ℕ) :
    (iprop(oP d (cV L) (jV L) (base L) (base L + 16 * (n - 1)) (fin L I) ∗ gotR d L I 0 n ∗ gotR d L I 8 n) : sProp 𝕄) ⊢ oP d (cV L) (jV L) (base L) (base L + 16 * n) (fin L I) := by
  match n with
  | 0 =>
    unfold gotR
    iintro ⟨H, -, -⟩
    iexact H
  | n + 1 =>
    unfold gotR
    iintro ⟨H, H1, H2⟩
    iapply (oP_split (F := F) d (cV L) (jV L) (base L) (base L + 16 * n) (base L + 16 * (n + 1)) (by omega) (by omega) (fin L I)).2
    isplitl [H]; · iexact H
    iapply (oP_split (F := F) d (cV L) (jV L) (base L + 16 * n) (base L + 16 * n + 8) (base L + 16 * (n + 1)) (by omega) (by omega) (fin L I)).2
    isplitl [H1]; · iexact H1
    iexact H2

variable (arg2 : Memref sig .scVector .hbm S4096x64 .i32) (harg2 : arg2.IsWhole) (harg3 : oM.IsWhole)
  (arg4 : Memref sig .scVector .vmem S128x64 .i32) (harg4 : arg4.IsWhole) (arg5 : Memref sig .scVector .vmem S8x5008 .f32) (harg5 : arg5.IsWhole)
  (arg6 : Memref sig .scVector .vmem S8x5008 .f32) (harg6 : arg6.IsWhole) (arg7 arg8 v11_r0 : DmaSems sig S_)
variable {I : S128x64.Idx → BitVec 32}

theorem trips_t6 : k0_t6_loop.trips = 8 := by decide +kernel

theorem t6_loop (hI : ∀ y, (I y).toNat < 5008) (n : Fin k0_t5_loop.trips) {α : Type} {kk : Unit → Prog (TpuEff nD τ sig (Elt F) Λ₀ (.scVector (cV L) (jV L))) α} {Q : α → sProp (MT nD τ sig (HIx 1) (Elt F) ℕ UU ℕ)} :
    (iprop(hd (F := F) d (cV L) (jV L) arg4 I ∗ hd d (cV L) (jV L) arg5 (blkN I 0 n.val)) : sProp 𝕄) ⊢
      iprop(((hd (F := F) d (cV L) (jV L) arg4 I ∗ hd d (cV L) (jV L) arg5 (blkN I 0 (n.val + 1))) -∗ wp frame (wpE (defs₀ (F := F)) 𝒱₀ (V d (cV L) (jV L)) none) Set.univ (kk ⟨⟩) Q)
      -∗ wp frame (wpE (defs₀ (F := F)) 𝒱₀ (V d (cV L) (jV L)) none) Set.univ
      (Scf.Loop.for k0_t6_loop k0_t6_ok ⟨⟩ (k0_t6_body (F := F) L arg2 harg2 oM harg3 arg4 harg4 arg5 harg5 arg6 harg6 arg7 arg8 v11_r0 n) >>= kk) Q) := by
  iintro H Hk
  rw [← mix_zero]
  iapply (Scf.wp_for_bind frame (wpE (defs₀ (F := F)) 𝒱₀ (V d (cV L) (jV L)) none) Set.univ k0_t6_loop.lb k0_t6_loop.ub k0_t6_loop.st k0_t6_ok ⟨⟩ _
    (fun k _ => iprop(hd (F := F) d (cV L) (jV L) arg4 I ∗ hd d (cV L) (jV L) arg5 (mix I 0 n.val k)))
    (fun k u => t6_trip (F := F) d L arg2 harg2 oM harg3 arg4 harg4 arg5 harg5 arg6 harg6 arg7 arg8 v11_r0 hI n k u)) $$ H
  iintro %u' H
  rw [show Scf.trips k0_t6_loop.lb k0_t6_loop.ub k0_t6_loop.st = 8 from trips_t6, mix_all]
  iapply Hk
  iexact H

theorem trips_t7 : k0_t7_loop.trips = 8 := by decide +kernel

theorem t7_loop (hI : ∀ y, (I y).toNat < 5008) (n : Fin k0_t5_loop.trips) {α : Type} {kk : Unit → Prog (TpuEff nD τ sig (Elt F) Λ₀ (.scVector (cV L) (jV L))) α} {Q : α → sProp (MT nD τ sig (HIx 1) (Elt F) ℕ UU ℕ)} :
    (iprop(hd (F := F) d (cV L) (jV L) arg4 I ∗ hd d (cV L) (jV L) arg6 (blkN I 8 n.val)) : sProp 𝕄) ⊢
      iprop(((hd (F := F) d (cV L) (jV L) arg4 I ∗ hd d (cV L) (jV L) arg6 (blkN I 8 (n.val + 1))) -∗ wp frame (wpE (defs₀ (F := F)) 𝒱₀ (V d (cV L) (jV L)) none) Set.univ (kk ⟨⟩) Q)
      -∗ wp frame (wpE (defs₀ (F := F)) 𝒱₀ (V d (cV L) (jV L)) none) Set.univ
      (Scf.Loop.for k0_t7_loop k0_t7_ok ⟨⟩ (k0_t7_body (F := F) L arg2 harg2 oM harg3 arg4 harg4 arg5 harg5 arg6 harg6 arg7 arg8 v11_r0 n) >>= kk) Q) := by
  iintro H Hk
  rw [← mix_zero]
  iapply (Scf.wp_for_bind frame (wpE (defs₀ (F := F)) 𝒱₀ (V d (cV L) (jV L)) none) Set.univ k0_t7_loop.lb k0_t7_loop.ub k0_t7_loop.st k0_t7_ok ⟨⟩ _
    (fun k _ => iprop(hd (F := F) d (cV L) (jV L) arg4 I ∗ hd d (cV L) (jV L) arg6 (mix I 8 n.val k)))
    (fun k u => t7_trip (F := F) d L arg2 harg2 oM harg3 arg4 harg4 arg5 harg5 arg6 harg6 arg7 arg8 v11_r0 hI n k u)) $$ H
  iintro %u' H
  rw [show Scf.trips k0_t7_loop.lb k0_t7_loop.ub k0_t7_loop.st = 8 from trips_t7, mix_all]
  iapply Hk
  iexact H

theorem cond1_iff : ∀ n : Fin k0_t5_loop.trips, k0_cond1 n = 1#1 ↔ n.val ≠ 0 := by decide +kernel
theorem cond3_iff : ∀ n : Fin k0_t5_loop.trips, k0_cond3 n = 1#1 ↔ n.val ≠ 0 := by decide +kernel

/-- A guarded wait. -/
theorem wp_guard {b : Memref sig .scVector .vmem S8x5008 .f32} {sm : DmaSem sig} {off n : ℕ} {cond : Prop} [Decidable cond] (hc : cond ↔ n ≠ 0)
    {src : cond → Memref sig .scVector .vmem S8x5008 .f32} {dst : cond → Memref sig .scVector .hbm S8x5008 .f32} {hs : ∀ h, (src h).view.WordExact} {hd' : ∀ h, (dst h).view.WordExact}
    (hN : ∀ h, (dst h).view.dmaCredit = cr8) {α : Type} {P : Prog (TpuEff nD τ sig (Elt F) Λ₀ (.scVector (cV L) (jV L))) α} {Q : α → sProp (MT nD τ sig (HIx 1) (Elt F) ℕ UU ℕ)}
    (O : CellTallies nD τ sig (HIx 1)) (W : Waits sig (HIx 1)) (hO : ∀ g, O g none = 0) :
    (iprop(levAts (K (F := F)).L (K (F := F)).lev ∗ pend d L b sm I off n ∗ ow d (cV L) (jV L) O W) : sProp 𝕄)
      ⊢ iprop(((hd d (cV L) (jV L) b (blkN I off n) ∗ semVal (V d (cV L) (jV L), .dma sm) 0 ∗ gotR d L I off n ∗ ow d (cV L) (jV L) O W) -∗ wp frame (wpE (defs₀ (F := F)) 𝒱₀ (V d (cV L) (jV L)) none) Set.univ P Q)
        -∗ wp frame (wpE (defs₀ (F := F)) 𝒱₀ (V d (cV L) (jV L)) none) Set.univ
          (if h : cond then (Prog.lift (.waitDma2 sm (src h) (dst h) (hs h) (hd' h)) >>= fun _ => P) else P) Q) := by
  by_cases h : cond
  · rw [dif_pos h]
    obtain ⟨n', rfl⟩ : ∃ n', n = n' + 1 := ⟨n - 1, by have := hc.mp h; omega⟩
    unfold pend gotR
    iintro ⟨Hlv, Hfl, HO⟩ Hk
    iapply (wp_wait (F := F) d (cV L) (jV L) (src := src h) (dst := dst h) (hs := hs h) (hd' := hd' h) (sm := sm) (hN h) (k := fun _ => P) O W hO) $$ [Hlv Hfl HO]
    · isplitl [Hlv]; · iexact Hlv
      isplitl [Hfl]; · iexact Hfl
      iexact HO
    iintro ⟨⟨Ho, Hb⟩, Hv, HO⟩
    iapply Hk
    isplitl [Hb]; · iexact Hb
    isplitl [Hv]; · iexact Hv
    isplitl [Ho]; · iexact Ho
    iexact HO
  · rw [dif_neg h]
    obtain rfl : n = 0 := by by_contra h'; exact h (hc.mpr h')
    unfold pend gotR
    iintro ⟨-, ⟨Hb, Hv⟩, HO⟩ Hk
    iapply Hk
    isplitl [Hb]; · iexact Hb
    isplitl [Hv]; · iexact Hv
    isplitr; · iempintro
    iexact HO

/-- The main loop's invariant. -/
def inv5 (I : S128x64.Idx → BitVec 32) (f : S4096x5008.Idx → F .f32) (O : CellTallies nD τ sig (HIx 1)) (W : Waits sig (HIx 1)) (n : ℕ) : sProp 𝕄 :=
  iprop(hd (F := F) d (cV L) (jV L) arg4 I ∗ pend d L arg5 arg7.sem I 0 n ∗ pend d L arg6 arg8.sem I 8 n
    ∗ oP d (cV L) (jV L) (base L) (base L + 16 * (n - 1)) (fin L I) ∗ oP d (cV L) (jV L) (base L + 16 * n) (base L + 128) f ∗ ow d (cV L) (jV L) O W)

theorem t5_trip (hI : ∀ y, (I y).toNat < 5008) (f : S4096x5008.Idx → F .f32) (O : CellTallies nD τ sig (HIx 1)) (W : Waits sig (HIx 1)) (hO : ∀ g, O g none = 0)
    (n : Fin k0_t5_loop.trips) (u : Unit) :
    (iprop(levAts (K (F := F)).L (K (F := F)).lev ∗ inv5 d L arg4 arg5 arg6 arg7 arg8 I f O W n.val) : sProp 𝕄)
      ⊢ wp frame (wpE (defs₀ (F := F)) 𝒱₀ (V d (cV L) (jV L)) none) Set.univ
          (k0_t5_body (F := F) L arg2 harg2 oM harg3 arg4 harg4 arg5 harg5 arg6 harg6 arg7 arg8 v11_r0 n u)
          fun _ => iprop(levAts (K (F := F)).L (K (F := F)).lev ∗ inv5 d L arg4 arg5 arg6 arg7 arg8 I f O W (n.val + 1)) := by
  have hn : n.val < 8 := n.isLt
  unfold k0_t5_body inv5
  dsimp only
  iintro ⟨#Hlv, Ha, H5, H6, Hdone, Hrest, HO⟩
  iapply (wp_guard (F := F) d L (b := arg5) (sm := arg7.sem) (off := 0) (n := n.val) (cond1_iff n) (fun _ => rfl) O W hO) $$ [H5 HO]
  · isplitr; · iexact Hlv
    isplitl [H5]; · iexact H5
    iexact HO
  iintro ⟨H5, Hv5, Hg5, HO⟩
  iapply (t6_loop (F := F) d L arg2 harg2 harg3 arg4 harg4 arg5 harg5 arg6 harg6 arg7 arg8 v11_r0 hI n) $$ [Ha H5]
  · isplitl [Ha]; · iexact Ha
    iexact H5
  iintro ⟨Ha, H5⟩
  ihave ⟨Hr5, Hrest⟩ := (oP_split (F := F) d (cV L) (jV L) (base L + 16 * n.val) (base L + 16 * n.val + 0 + 8) (base L + 128) (by omega) (by omega) f).1 $$ Hrest
  ihave ⟨Hr6, Hrest⟩ := (oP_split (F := F) d (cV L) (jV L) (base L + 16 * n.val + 0 + 8) (base L + 16 * n.val + 8 + 8) (base L + 128) (by omega) (by omega) f).1 $$ Hrest
  iapply (wp_out (F := F) d (cV L) (jV L) (b := arg5) (G := blkN I 0 (n.val + 1)) rfl (base L + 16 * n.val + 0) (by rw [k0_off13_eq]; rfl) (by rw [k0_off13_eq]; rfl) f (fin L I)
    (fun y x h0 h1 => fin_blk L I 0 n.val y x h0 h1)) $$ [H5 Hr5 Hv5]
  · isplitl [H5]; · iexact H5
    isplitl [Hr5]; · iexact Hr5
    iexact Hv5
  iintro Hf5
  iapply (wp_guard (F := F) d L (b := arg6) (sm := arg8.sem) (off := 8) (n := n.val) (cond3_iff n) (fun _ => rfl) O W hO) $$ [H6 HO]
  · isplitr; · iexact Hlv
    isplitl [H6]; · iexact H6
    iexact HO
  iintro ⟨H6, Hv6, Hg6, HO⟩
  iapply (t7_loop (F := F) d L arg2 harg2 harg3 arg4 harg4 arg5 harg5 arg6 harg6 arg7 arg8 v11_r0 hI n) $$ [Ha H6]
  · isplitl [Ha]; · iexact Ha
    iexact H6
  iintro ⟨Ha, H6⟩
  iapply (wp_out (F := F) d (cV L) (jV L) (b := arg6) (G := blkN I 8 (n.val + 1)) rfl (base L + 16 * n.val + 8) (by rw [k0_off23_eq]; rfl) (by rw [k0_off23_eq]; rfl) f (fin L I)
    (fun y x h0 h1 => fin_blk L I 8 n.val y x h0 h1)) $$ [H6 Hr6 Hv6]
  · isplitl [H6]; · iexact H6
    isplitl [Hr6]; · iexact Hr6
    iexact Hv6
  iintro Hf6
  rw [wp_pure]
  imodintro
  rw [pend_succ, pend_succ]
  isplitr; · iexact Hlv
  isplitl [Ha]; · iexact Ha
  isplitl [Hf5]; · iexact Hf5
  isplitl [Hf6]; · iexact Hf6
  isplitl [Hdone Hg5 Hg6]
  · iapply (got_join (F := F) d L I n.val)
    isplitl [Hdone]; · iexact Hdone
    isplitl [Hg5]; · iexact Hg5
    iexact Hg6
  isplitl [Hrest]; · iexact Hrest
  iexact HO

theorem trips_t5 : k0_t5_loop.trips = 8 := by decide +kernel

theorem t5_loop (hI : ∀ y, (I y).toNat < 5008) (f : S4096x5008.Idx → F .f32) (O : CellTallies nD τ sig (HIx 1)) (W : Waits sig (HIx 1)) (hO : ∀ g, O g none = 0)
    {α : Type} {kk : Unit → Prog (TpuEff nD τ sig (Elt F) Λ₀ (.scVector (cV L) (jV L))) α} {Q : α → sProp (MT nD τ sig (HIx 1) (Elt F) ℕ UU ℕ)} :
    (iprop(levAts (K (F := F)).L (K (F := F)).lev ∗ inv5 d L arg4 arg5 arg6 arg7 arg8 I f O W 0) : sProp 𝕄)
      ⊢ iprop((inv5 d L arg4 arg5 arg6 arg7 arg8 I f O W 8 -∗ wp frame (wpE (defs₀ (F := F)) 𝒱₀ (V d (cV L) (jV L)) none) Set.univ (kk ⟨⟩) Q)
      -∗ wp frame (wpE (defs₀ (F := F)) 𝒱₀ (V d (cV L) (jV L)) none) Set.univ
      (Scf.Loop.for k0_t5_loop k0_t5_ok ⟨⟩ (k0_t5_body (F := F) L arg2 harg2 oM harg3 arg4 harg4 arg5 harg5 arg6 harg6 arg7 arg8 v11_r0) >>= kk) Q) := by
  iintro H Hk
  iapply (Scf.wp_for_bind frame (wpE (defs₀ (F := F)) 𝒱₀ (V d (cV L) (jV L)) none) Set.univ k0_t5_loop.lb k0_t5_loop.ub k0_t5_loop.st k0_t5_ok ⟨⟩ _
    (fun k _ => iprop(levAts (K (F := F)).L (K (F := F)).lev ∗ inv5 d L arg4 arg5 arg6 arg7 arg8 I f O W k))
    (fun k u => t5_trip (F := F) d L arg2 harg2 harg3 arg4 harg4 arg5 harg5 arg6 harg6 arg7 arg8 v11_r0 hI f O W hO k u)) $$ H
  iintro %u' ⟨-, H⟩
  rw [show Scf.trips k0_t5_loop.lb k0_t5_loop.ub k0_t5_loop.st = 8 from trips_t5]
  iapply Hk
  iexact H

end Cert.Proof.Counts

end
-- ==== Proof.TileBody.lean ====
/-
  A tile's whole body: its index block copied in, its two blocks cleared, the main loop, and the last two waits.
-/
module

public import proofs.«01_k».proof.Proof.MainLoop

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-- The indices array as a tile names it, and the tile's rows of it. -/
abbrev iM : Memref sig .scVector .hbm S4096x64 .i32 := Memref.whole main_v1_scv
abbrev iB (L : grid0.Coords) : Memref sig .scVector .hbm S128x64 .i32 := iM.slice (Rect.unit (s := S4096x64) (k0_off1 L) S128x64.size (k0_off1_inb L)) (fun _ => rfl)

/-- The tile's rows of the indices array held at `f`. -/
def iP (d : Dev nD) (L : grid0.Coords) (f : S4096x64.Idx → BitVec 32) : sProp 𝕄 :=
  iprop((iB L).view.loc (V d (cV L) (jV L)) ↦[(iB L).view.set]{fullShare} f)

/-- The tile's index block. -/
def blkI (L : grid0.Coords) (f : S4096x64.Idx → BitVec 32) : S128x64.Idx → BitVec 32 := fun x => f ((Rect.unit (s := S4096x64) (k0_off1 L) S128x64.size (k0_off1_inb L)).emb x)

variable (d : Dev nD) (L : grid0.Coords)
variable (harg2 : iM.IsWhole) (harg3 : oM.IsWhole)
  (arg4 : Memref sig .scVector .vmem S128x64 .i32) (harg4 : arg4.IsWhole) (arg5 : Memref sig .scVector .vmem S8x5008 .f32) (harg5 : arg5.IsWhole)
  (arg6 : Memref sig .scVector .vmem S8x5008 .f32) (harg6 : arg6.IsWhole) (arg7 arg8 v11_r0 : DmaSems sig S_)

theorem in_done {b : Memref sig .scVector .vmem S128x64 .i32} (f : S4096x64.Idx → BitVec 32) (g : b.view.ty.Contents (Elt F)) :
    (iprop((b.view.loc (V d (cV L) (jV L)) ↦[b.view.set]{fullShare}
        (b.view.write (Elt F) g ((ReadAs.same : ReadAs (Elt F) S128x64 .i32 S128x64 .i32).apply ((iB L).view.read (Elt F) f)) Finset.univ))
      ∗ ((iB L).view.loc (V d (cV L) (jV L)) ↦[(iB L).view.set]{fullShare} f)) : sProp 𝕄)
      ⊢ iprop((∃ f', ⌜b.view.read (Elt F) f' = blkI L f⌝ ∗ b.view.loc (V d (cV L) (jV L)) ↦[b.view.set]{fullShare} f')
        ∗ (iB L).view.loc (V d (cV L) (jV L)) ↦[(iB L).view.set]{fullShare} f) := by
  refine BI.sep_mono ?_ (BI.Entails.refl _)
  show (_ : sProp 𝕄) ⊢ _
  iintro Hb
  iexists _
  isplitr
  swap; · iexact Hb
  ipureintro
  refine (View.read_write_univ _ _).trans ?_
  rfl

theorem wp_in {b : Memref sig .scVector .vmem S128x64 .i32} {G : S128x64.Idx → BitVec 32} {hs : (iB L).view.WordExact} {hd' : (DmaTarget.here b : DmaTarget nD τ sig (.scVector (cV L) (jV L)) .vmem S128x64 .i32).view.WordExact}
    {sm : SemLoc sig} {hsem : DmaTarget.Typed (nD := nD) .hbm sm (DmaTarget.here b : DmaTarget nD τ sig (.scVector (cV L) (jV L)) .vmem S128x64 .i32)}
    {α : Type} {Q : α → sProp (MT nD τ sig (HIx 1) (Elt F) ℕ UU ℕ)} {k : PUnit → Prog (TpuEff nD τ sig (Elt F) Λ₀ (.scVector (cV L) (jV L))) α} (f : S4096x64.Idx → BitVec 32) :
    (iprop(hd (F := F) d (cV L) (jV L) b G ∗ iP d L f ∗ semVal (V d (cV L) (jV L), sm) 0) : sProp 𝕄)
      ⊢ iprop((Transfers.Flight countersEmb (V d (cV L) (jV L)) sm none (b.view.amount sm) iprop(hd (F := F) d (cV L) (jV L) b (blkI L f) ∗ iP d L f) -∗ wp frame (wpE (defs₀ (F := F)) 𝒱₀ (V d (cV L) (jV L)) none) Set.univ (k ⟨⟩) Q)
        -∗ wp frame (wpE (defs₀ (F := F)) 𝒱₀ (V d (cV L) (jV L)) none) Set.univ
          (Prog.lift (.enqueueDma (iB L) (.here b) sm hs hd' hsem) >>= k) Q) := by
  unfold hd iP
  iintro ⟨⟨%g, %hg, Hb⟩, Hi, Hv⟩ Hk
  iapply (Transfers.wp_dmaLocal (defs := defs₀ (F := F)) countersEmb 𝒱₀ (V d (cV L) (jV L)) none (none : HIx 1) (b.view.amount sm) rfl (View.amount_pos _ _ (show 0 < S128x64.numel by decide))
    (src := iB L) (via := .same) (dst := b) (fs := f) (fd := g) (Sd := b.view.set) (le_refl _)) $$ [Hb Hi Hv]
  · isplitl [Hi]; · iexact Hi
    isplitl [Hb]; · iexact Hb
    iexact Hv
  iintro Hfl
  iapply Hk
  iapply (Transfers.Flight_mono countersEmb (V d (cV L) (jV L)) (in_done (F := F) d L f g)) $$ Hfl

theorem body_core (f : S4096x64.Idx → BitVec 32) (hI : ∀ y, (blkI L f y).toNat < 5008) (fo : S4096x5008.Idx → F .f32) (O : CellTallies nD τ sig (HIx 1)) (W : Waits sig (HIx 1)) (hO : ∀ g, O g none = 0)
    (G4 : S128x64.Idx → BitVec 32) (G5 G6 : Vec F S8x5008 .f32) :
    (iprop(levAts (K (F := F)).L (K (F := F)).lev ∗ iP d L f ∗ oP d (cV L) (jV L) (base L) (base L + 128) fo
      ∗ hd (F := F) d (cV L) (jV L) arg4 G4 ∗ hd d (cV L) (jV L) arg5 G5 ∗ hd d (cV L) (jV L) arg6 G6
      ∗ semVal (V d (cV L) (jV L), .dma arg7.sem) 0 ∗ semVal (V d (cV L) (jV L), .dma arg8.sem) 0 ∗ semVal (V d (cV L) (jV L), .dma v11_r0.sem) 0
      ∗ ow d (cV L) (jV L) O W) : sProp 𝕄)
      ⊢ wp frame (wpE (defs₀ (F := F)) 𝒱₀ (V d (cV L) (jV L)) none) Set.univ
          (cc0_k (F := F) L iM harg2 oM harg3 arg4 harg4 arg5 harg5 arg6 harg6 arg7 arg8 v11_r0)
          fun _ => iprop(iP d L f ∗ oP d (cV L) (jV L) (base L) (base L + 128) (fin L (blkI L f))
            ∗ (∃ G, hd (F := F) d (cV L) (jV L) arg4 G) ∗ (∃ G, hd d (cV L) (jV L) arg5 G) ∗ (∃ G, hd d (cV L) (jV L) arg6 G)
            ∗ semVal (V d (cV L) (jV L), .dma arg7.sem) 0 ∗ semVal (V d (cV L) (jV L), .dma arg8.sem) 0 ∗ semVal (V d (cV L) (jV L), .dma v11_r0.sem) 0
            ∗ ow d (cV L) (jV L) O W) := by
  rw [cc0_k_eq_skeleton]
  unfold cc0_k_skel
  iintro ⟨#Hlv, Hi, Ho, H4, H5, H6, Hv7, Hv8, Hv, HO⟩
  iapply (wp_in (F := F) d L (b := arg4) (G := G4) f) $$ [H4 Hi Hv]
  · isplitl [H4]; · iexact H4
    isplitl [Hi]; · iexact Hi
    iexact Hv
  iintro Hfl
  iapply (wp_wait (F := F) d (cV L) (jV L) (sm := v11_r0.sem) rfl O W hO) $$ [Hfl HO]
  · isplitr; · iexact Hlv
    isplitl [Hfl]; · iexact Hfl
    iexact HO
  iintro ⟨⟨H4, Hi⟩, Hv, HO⟩
  iapply (t1_loop (F := F) d L iM harg2 oM harg3 arg4 harg4 arg5 harg5 arg6 harg6 arg7 arg8 v11_r0 G5 (blkI L f) 0) $$ H5
  iintro H5
  iapply (t3_loop (F := F) d L iM harg2 oM harg3 arg4 harg4 arg5 harg5 arg6 harg6 arg7 arg8 v11_r0 G6 (blkI L f) 8) $$ H6
  iintro H6
  iapply (t5_loop (F := F) d L iM harg2 harg3 arg4 harg4 arg5 harg5 arg6 harg6 arg7 arg8 v11_r0 hI fo O W hO) $$ [Ho H4 H5 H6 Hv7 Hv8 HO]
  · isplitr; · iexact Hlv
    unfold inv5 pend
    isplitl [H4]; · iexact H4
    isplitl [H5 Hv7]
    · isplitl [H5]; · iexact H5
      iexact Hv7
    isplitl [H6 Hv8]
    · isplitl [H6]; · iexact H6
      iexact Hv8
    rw [oP_empty (F := F) d (cV L) (jV L) (base L) (base L + 16 * (0 - 1)) (by omega)]
    isplitr; · iempintro
    isplitl [Ho]; · iexact Ho
    iexact HO
  iintro H
  unfold inv5
  rw [show (8 : ℕ) = 7 + 1 from rfl, pend_succ, pend_succ]
  icases H with ⟨H4, Hf5, Hf6, Hdone, -, HO⟩
  iapply (wp_wait (F := F) d (cV L) (jV L) (sm := arg7.sem) rfl O W hO) $$ [Hf5 HO]
  · isplitr; · iexact Hlv
    isplitl [Hf5]; · iexact Hf5
    iexact HO
  iintro ⟨⟨Ho5, H5⟩, Hv7, HO⟩
  iapply (wp_wait (F := F) d (cV L) (jV L) (sm := arg8.sem) rfl O W hO) $$ [Hf6 HO]
  · isplitr; · iexact Hlv
    isplitl [Hf6]; · iexact Hf6
    iexact HO
  iintro ⟨⟨Ho6, H6⟩, Hv8, HO⟩
  rw [wp_pure]
  imodintro
  isplitl [Hi]; · iexact Hi
  isplitl [Hdone Ho5 Ho6]
  · iapply (oP_split (F := F) d (cV L) (jV L) (base L) (base L + 16 * (7 + 1 - 1)) (base L + 128) (by omega) (by omega) (fin L (blkI L f))).2
    isplitl [Hdone]; · iexact Hdone
    iapply (oP_split (F := F) d (cV L) (jV L) (base L + 16 * 7 + 0) (base L + 16 * 7 + 0 + 8) (base L + 128) (by omega) (by omega) (fin L (blkI L f))).2
    isplitl [Ho5]; · iexact Ho5
    iexact Ho6
  isplitl [H4]; · iexists _; iexact H4
  isplitl [H5]; · iexists _; iexact H5
  isplitl [H6]; · iexists _; iexact H6
  isplitl [Hv7]; · iexact Hv7
  isplitl [Hv8]; · iexact Hv8
  isplitl [Hv]; · iexact Hv
  iexact HO

end Cert.Proof.Counts

end
-- ==== Proof.TileOwn.lean ====
/-
  A tile's own storage opened, and its task as the launch runs it.
-/
module

public import proofs.«01_k».proof.Proof.TileBody

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (ownBufs ownSems0 ownRefs ownCells mem_ownCells)

variable {F : FTy → Type} [FloatOps F] [Named F]

local notation "𝕄" => MT nD τ sig (HIx 1) (Elt F) ℕ UU ℕ

variable (d : Dev nD) (L : grid0.Coords)

/-- The three counters a tile's copies are counted on. -/
abbrev c7 : GSem nD τ sig := (V d (cV L) (jV L), .dma cc0_scratch3.sem)
abbrev c8 : GSem nD τ sig := (V d (cV L) (jV L), .dma cc0_scratch4.sem)
abbrev c9 : GSem nD τ sig := (V d (cV L) (jV L), .dma cc0_scoped0.sem)

theorem ownSems0_V :
    (ownSems0 (V d (cV L) (jV L)) : sProp 𝕄)
      = iprop(semVal (c7 d L) 0 ∗ semVal (c8 d L) 0 ∗ semVal (c9 d L) 0
          ∗ bigSep ((((ownCells (V d (cV L) (jV L))).erase (c7 d L)).erase (c8 d L)).erase (c9 d L)) fun g => semVal g 0) := by
  unfold SparseCore.Cfg.ownSems0
  rw [SparseCore.bigSep_erase' ((mem_ownCells (g := c7 d L)).mpr ⟨rfl, by
      show (SemLoc.dma cc0_scratch3.sem : SemLoc sig).isScoped .scVector = true; decide⟩),
    SparseCore.bigSep_erase' (Finset.mem_erase.mpr ⟨by simp [c7, c8]; decide, (mem_ownCells (g := c8 d L)).mpr ⟨rfl, by
      show (SemLoc.dma cc0_scratch4.sem : SemLoc sig).isScoped .scVector = true; decide⟩⟩),
    SparseCore.bigSep_erase' (Finset.mem_erase.mpr ⟨by simp [c8, c9]; decide, Finset.mem_erase.mpr ⟨by simp [c7, c9]; decide,
      (mem_ownCells (g := c9 d L)).mpr ⟨rfl, by show (SemLoc.dma cc0_scoped0.sem : SemLoc sig).isScoped .scVector = true; decide⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- A whole scratch buffer held at something reads something. -/
theorem hd_of_own {sh : Shape} {e : EltTy} (b : Memref sig .scVector .vmem sh e) (h : b.view.set = Finset.univ) :
    (iprop(∃ f, b.view.loc (V d (cV L) (jV L)) ↦{fullShare} f) : sProp 𝕄) ⊢ iprop(∃ G, hd d (cV L) (jV L) b G) := by
  unfold hd
  iintro ⟨%f, H⟩
  iexists b.view.read (Elt F) f
  iexists f
  isplitr; · ipureintro; rfl
  rw [h]; iexact H

theorem own_of_hd {sh : Shape} {e : EltTy} (b : Memref sig .scVector .vmem sh e) (h : b.view.set = Finset.univ) :
    (iprop(∃ G, hd d (cV L) (jV L) b G) : sProp 𝕄) ⊢ iprop(∃ f, b.view.loc (V d (cV L) (jV L)) ↦{fullShare} f) := by
  unfold hd
  iintro ⟨%G, %f, -, H⟩
  iexists f
  rw [h]; iexact H

/-- The tile's task on the call's own buffers: its index rows read and its output rows written, its storage and its
    counters back as they were. -/
theorem tile_body (hF : (K (F := F)).Facts) (f : S4096x64.Idx → BitVec 32) (hI : ∀ y, (blkI L f y).toNat < 5008) (fo : S4096x5008.Idx → F .f32)
    (O : CellTallies nD τ sig (HIx 1)) (W : Waits sig (HIx 1)) (hO : ∀ g, O g none = 0) :
    iprop(levAts (K (F := F)).L (K (F := F)).lev ∗ (iprop(emp) : sProp 𝕄) ∗ (iP d L f ∗ oP d (cV L) (jV L) (base L) (base L + 128) fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L iM (Memref.isWhole_whole _) oM (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scoped0)
          fun _ => iprop((iP d L f ∗ oP d (cV L) (jV L) (base L) (base L + 128) (fin L (blkI L f))) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  have h4 : ((Memref.whole cc0_scratch0 : Memref sig .scVector .vmem S128x64 .i32)).view.set = Finset.univ := by simp only [Memref.view_whole, View.set_whole]
  have h5 : ((Memref.whole cc0_scratch1 : Memref sig .scVector .vmem S8x5008 .f32)).view.set = Finset.univ := by simp only [Memref.view_whole, View.set_whole]
  have h6 : ((Memref.whole cc0_scratch2 : Memref sig .scVector .vmem S8x5008 .f32)).view.set = Finset.univ := by simp only [Memref.view_whole, View.set_whole]
  iintro ⟨#Hlv, -, ⟨Hi, Ho⟩, ⟨H4, H5, H6, Hbufs⟩, ⟨Hs7, Hs8, Hs9, Hsems⟩, HO⟩
  ihave Hh4 := (hd_of_own d L (Memref.whole cc0_scratch0 : Memref sig .scVector .vmem S128x64 .i32) h4) $$ H4
  ihave Hh5 := (hd_of_own d L (Memref.whole cc0_scratch1 : Memref sig .scVector .vmem S8x5008 .f32) h5) $$ H5
  ihave Hh6 := (hd_of_own d L (Memref.whole cc0_scratch2 : Memref sig .scVector .vmem S8x5008 .f32) h6) $$ H6
  icases Hh4 with ⟨%G4, Hh4⟩
  icases Hh5 with ⟨%G5, Hh5⟩
  icases Hh6 with ⟨%G6, Hh6⟩
  iapply (wp_wand (Q := fun _ => iprop(iP d L f ∗ oP d (cV L) (jV L) (base L) (base L + 128) (fin L (blkI L f))
    ∗ (∃ G, hd d (cV L) (jV L) (Memref.whole cc0_scratch0 : Memref sig .scVector .vmem S128x64 .i32) G)
    ∗ (∃ G, hd d (cV L) (jV L) (Memref.whole cc0_scratch1 : Memref sig .scVector .vmem S8x5008 .f32) G)
    ∗ (∃ G, hd d (cV L) (jV L) (Memref.whole cc0_scratch2 : Memref sig .scVector .vmem S8x5008 .f32) G)
    ∗ semVal (c7 d L) 0 ∗ semVal (c8 d L) 0 ∗ semVal (c9 d L) 0 ∗ ow d (cV L) (jV L) O W)) frame _ _) $$ [Hi Ho Hh4 Hh5 Hh6 Hs7 Hs8 Hs9 HO]
  · iapply (body_core d L (Memref.isWhole_whole _) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scoped0 f hI fo O W hO G4 G5 G6)
    isplitr; · iexact Hlv
    isplitl [Hi]; · iexact Hi
    isplitl [Ho]; · iexact Ho
    isplitl [Hh4]; · iexact Hh4
    isplitl [Hh5]; · iexact Hh5
    isplitl [Hh6]; · iexact Hh6
    isplitl [Hs7]; · iexact Hs7
    isplitl [Hs8]; · iexact Hs8
    isplitl [Hs9]; · iexact Hs9
    unfold ow
    iexists W
    isplitr; · ipureintro; exact fun p hp => Or.inl hp
    iexact HO
  iintro %u ⟨Hi, Ho, Hh4, Hh5, Hh6, Hs7, Hs8, Hs9, HO⟩
  ihave H4 := (own_of_hd d L (Memref.whole cc0_scratch0 : Memref sig .scVector .vmem S128x64 .i32) h4) $$ Hh4
  ihave H5 := (own_of_hd d L (Memref.whole cc0_scratch1 : Memref sig .scVector .vmem S8x5008 .f32) h5) $$ Hh5
  ihave H6 := (own_of_hd d L (Memref.whole cc0_scratch2 : Memref sig .scVector .vmem S8x5008 .f32) h6) $$ Hh6
  isplitl [Hi Ho]; · isplitl [Hi] <;> iassumption
  isplitl [H4 H5 H6 Hbufs]
  · isplitl [H4]; · iexact H4
    isplitl [H5]; · iexact H5
    isplitl [H6]; · iexact H6
    iexact Hbufs
  isplitl [Hs7 Hs8 Hs9 Hsems]
  · isplitl [Hs7]; · iexact Hs7
    isplitl [Hs8]; · iexact Hs8
    isplitl [Hs9]; · iexact Hs9
    iexact Hsems
  unfold ow
  iexact HO

end Cert.Proof.Counts

end
-- ==== Proof.Call.lean ====
/-
  The SparseCore call as the launch sees it: what it hands each tile and takes back, and that the tiles' rows make up the two arrays.
-/
module

public import proofs.«01_k».proof.Proof.TileOwn

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig (HIx 1) (Elt F) ℕ UU ℕ

/-- The counts array for an indices array: at row `r` and column `x`, the sixty-four words of row `r` counted at `x`. -/
def counts (f : S4096x64.Idx → BitVec 32) : S4096x5008.Idx → F .f32 := fun y => rowVal (fun q => chunk (n := 4096) f (y 0) q) (y 1).val

/-- Tile `(c, i)`'s coordinates. -/
def coordsV (c : Fin (grid0.bound 0)) (s : Fin (grid0.bound 1)) : grid0.Coords := fun | 0 => c | 1 => s | ⟨_ + 2, h⟩ => absurd h (Nat.not_lt.2 (Nat.le_add_left _ _))

theorem base_coordsV (c : Fin (grid0.bound 0)) (s : Fin (grid0.bound 1)) : base (coordsV c s) = 256 * s.val + 128 * c.val := rfl

/-- The tile on core `c`, subcore `i`. -/
def tl (c : Fin 2) (i : Fin 16) : grid0.Coords := coordsV c i

theorem base_tl (c : Fin 2) (i : Fin 16) : base (tl c i) = 256 * i.val + 128 * c.val := rfl

theorem off1_0 (L : grid0.Coords) : k0_off1 L 0 = base L := by rw [k0_off1_eq]; rfl
theorem off1_1 (L : grid0.Coords) : k0_off1 L 1 = 0 := by rw [k0_off1_eq]; rfl

theorem fin_counts (L : grid0.Coords) (f : S4096x64.Idx → BitVec 32) (y : S4096x5008.Idx) (h : base L ≤ (y 0).val) (h' : (y 0).val < base L + 128) :
    (fin L (blkI L f) y : F .f32) = counts f y := by
  unfold fin counts
  have hr : (y 0).val - base L < 128 := by omega
  rw [show (y 0).val - base L = (⟨(y 0).val - base L, hr⟩ : Fin 128).val from rfl, rv_of]
  refine congrArg (fun w : Fin 4 → V16 => (rowVal w (y 1).val : F .f32)) (funext fun q => funext fun x => ?_)
  unfold chunk blkI
  refine congrArg f (funext fun a => Fin.ext ?_)
  match a with
  | ⟨0, _⟩ =>
    show k0_off1 L 0 + 1 * ((y 0).val - base L) = (y 0).val
    rw [off1_0]; omega
  | ⟨1, _⟩ =>
    show k0_off1 L 1 + 1 * (16 * q.val + (x 0).val) = 16 * q.val + (x 0).val
    rw [off1_1]; omega

abbrev iLoc (d : Dev nD) : Loc nD τ sig := (SparseCore.T d).loc main_v1
abbrev oLoc (d : Dev nD) : Loc nD τ sig := (SparseCore.T d).loc main_v2

/-- A tile's rows of the indices array. -/
def irows (L : grid0.Coords) : Finset S4096x64.Idx := (iB L).view.set

theorem mem_irows {L : grid0.Coords} {i : S4096x64.Idx} : i ∈ irows L ↔ base L ≤ (i 0).val ∧ (i 0).val < base L + 128 := by
  show i ∈ ((View.whole main_v1_scv).slice (Rect.unit (s := S4096x64) (k0_off1 L) S128x64.size (k0_off1_inb L))).set ↔ _
  rw [View.set_slice_whole, Rect.mem_set_unit]
  constructor
  · intro h
    have h0 := h 0
    rw [off1_0] at h0
    exact ⟨h0.1, h0.2⟩
  · rintro ⟨h, h'⟩ a
    match a with
    | ⟨0, _⟩ =>
      show k0_off1 L 0 ≤ (i 0).val ∧ (i 0).val < k0_off1 L 0 + 128
      rw [off1_0]; exact ⟨h, h'⟩
    | ⟨1, _⟩ =>
      show k0_off1 L 1 ≤ (i 1).val ∧ (i 1).val < k0_off1 L 1 + 64
      rw [off1_1]
      have : (i 1).val < 64 := (i 1).isLt
      omega

theorem tile_row {r : ℕ} (h : r < 4096) : ∃ t : Fin 2 × Fin 16, base (tl t.1 t.2) ≤ r ∧ r < base (tl t.1 t.2) + 128 :=
  ⟨(⟨r / 128 % 2, by omega⟩, ⟨r / 256, by omega⟩), by rw [base_tl]; dsimp only; omega, by rw [base_tl]; dsimp only; omega⟩

theorem tile_row_unique {r : ℕ} (t t' : Fin 2 × Fin 16) (h : base (tl t.1 t.2) ≤ r ∧ r < base (tl t.1 t.2) + 128)
    (h' : base (tl t'.1 t'.2) ≤ r ∧ r < base (tl t'.1 t'.2) + 128) : t = t' := by
  rw [base_tl] at h h'
  have h1 := t.1.isLt; have h2 := t.2.isLt; have h3 := t'.1.isLt; have h4 := t'.2.isLt
  exact Prod.ext (Fin.ext (by omega)) (Fin.ext (by omega))

/-- A tile's rows, as indices of the two arrays. -/
def iK (d : Dev nD) (t : Fin 2 × Fin 16) : Finset (Idx (iLoc d)) := irows (tl t.1 t.2)
def oK (d : Dev nD) (t : Fin 2 × Fin 16) : Finset (Idx (oLoc d)) := orows (base (tl t.1 t.2)) (base (tl t.1 t.2) + 128)

theorem i_univ (d : Dev nD) : (Finset.univ : Finset (Fin 2 × Fin 16)).biUnion (fun t => (iK d t)) = Finset.univ := by
  refine Finset.eq_univ_of_forall fun i => ?_
  obtain ⟨t, ht⟩ := tile_row (show ((i : S4096x64.Idx) 0).val < 4096 from ((i : S4096x64.Idx) 0).isLt)
  exact Finset.mem_biUnion.mpr ⟨t, Finset.mem_univ _, mem_irows.mpr ht⟩

theorem o_univ (d : Dev nD) : (Finset.univ : Finset (Fin 2 × Fin 16)).biUnion (fun t => (oK d t)) = Finset.univ := by
  refine Finset.eq_univ_of_forall fun i => ?_
  obtain ⟨t, ht⟩ := tile_row (show ((i : S4096x5008.Idx) 0).val < 4096 from ((i : S4096x5008.Idx) 0).isLt)
  exact Finset.mem_biUnion.mpr ⟨t, Finset.mem_univ _, mem_orows.mpr ht⟩

theorem i_disj (d : Dev nD) : ∀ t ∈ (Finset.univ : Finset (Fin 2 × Fin 16)), ∀ t' ∈ (Finset.univ : Finset (Fin 2 × Fin 16)), t ≠ t' →
    Disjoint (iK d t) (iK d t') :=
  fun t _ t' _ hne => Finset.disjoint_left.mpr fun (i : S4096x64.Idx) hi hi' => hne (tile_row_unique t t' ((mem_irows (i := i)).mp hi) ((mem_irows (i := i)).mp hi'))
theorem o_disj (d : Dev nD) : ∀ t ∈ (Finset.univ : Finset (Fin 2 × Fin 16)), ∀ t' ∈ (Finset.univ : Finset (Fin 2 × Fin 16)), t ≠ t' →
    Disjoint (oK d t) (oK d t') :=
  fun t _ t' _ hne => Finset.disjoint_left.mpr fun (i : S4096x5008.Idx) hi hi' => hne (tile_row_unique t t' ((mem_orows (i := i)).mp hi) ((mem_orows (i := i)).mp hi'))

/-- The indices array is the tiles' rows of it. -/
theorem i_split (d : Dev nD) (f : S4096x64.Idx → BitVec 32) :
    (iLoc d ↦{fullShare} f : sProp 𝕄) = bigSep (Finset.univ : Finset (Fin 2)) fun c => bigSep (Finset.univ : Finset (Fin 16)) fun i => iP d (tl c i) f := by
  rw [← BI.bigSep_univ_prod (fun t : Fin 2 × Fin 16 => (iP d (tl t.1 t.2) f : sProp 𝕄))]
  show (iLoc d ↦[Finset.univ]{fullShare} f : sProp 𝕄) = _
  rw [← i_univ d]
  refine (pointsTo_biUnion (ℓ := iLoc d) Finset.univ (fun t => (iK d t)) (i_disj d)).trans ?_
  rfl

/-- The counts array is the tiles' rows of it. -/
theorem o_split (d : Dev nD) (f : S4096x5008.Idx → F .f32) :
    (oLoc d ↦{fullShare} f : sProp 𝕄) = bigSep (Finset.univ : Finset (Fin 2)) fun c => bigSep (Finset.univ : Finset (Fin 16)) fun i =>
      oP d (cV (tl c i)) (jV (tl c i)) (base (tl c i)) (base (tl c i) + 128) f := by
  rw [← BI.bigSep_univ_prod (fun t : Fin 2 × Fin 16 => (oP d (cV (tl t.1 t.2)) (jV (tl t.1 t.2)) (base (tl t.1 t.2)) (base (tl t.1 t.2) + 128) f : sProp 𝕄))]
  show (oLoc d ↦[Finset.univ]{fullShare} f : sProp 𝕄) = _
  rw [← o_univ d]
  refine (pointsTo_biUnion (ℓ := oLoc d) Finset.univ (fun t => (oK d t)) (o_disj d)).trans ?_
  rfl

/-! ## The payloads -/

variable (f1 : Dev nD → S4096x64.Idx → BitVec 32) (fo : Dev nD → S4096x5008.Idx → F .f32)

/-- A tile's share of the call: its rows of the indices, and its rows of the counts at `g`. -/
def piece (g : Dev nD → S4096x5008.Idx → F .f32) (d : Dev nD) (L : grid0.Coords) : sProp 𝕄 :=
  iprop(iP d L (f1 d) ∗ oP d (cV L) (jV L) (base L) (base L + 128) (g d))

instance piece_storable (g : Dev nD → S4096x5008.Idx → F .f32) (d : Dev nD) (L : grid0.Coords) : BI.Storable (upEmb : UEmb _ 𝕄) (piece f1 g d L) := by
  unfold piece iP oP; infer_instance

/-- What the call hands each tile, and takes back with the counts in place. -/
def P : (K (F := F)).Pay (nD := nD) (Val := Elt F) (Name := ℕ) (U := UU) where
  st := fun q d => match q with | 0 => fun c => bigSep (Finset.univ : Finset (Fin 16)) fun i => piece f1 fo d (tl c i)
  dn := fun q d => match q with | 0 => fun c => bigSep (Finset.univ : Finset (Fin 16)) fun i => piece f1 (fun d => counts (f1 d)) d (tl c i)
  go := fun q d => match q with | 0 => fun c i => piece f1 fo d (tl c i)
  td := fun q d => match q with | 0 => fun c i => piece f1 (fun d => counts (f1 d)) d (tl c i)
  x := fun _ _ => iprop(emp)

instance P_storable : (P f1 fo).IsStorable where
  st q d c := by
    match q with
    | 0 => show BI.Storable (upEmb : UEmb _ 𝕄) (bigSep (Finset.univ : Finset (Fin 16)) fun i => piece f1 fo d (tl c i)); infer_instance
  dn q d c := by
    match q with
    | 0 => show BI.Storable (upEmb : UEmb _ 𝕄) (bigSep (Finset.univ : Finset (Fin 16)) fun i => piece f1 (fun d => counts (f1 d)) d (tl c i)); infer_instance
  go q d c i := by
    match q with
    | 0 => show BI.Storable (upEmb : UEmb _ 𝕄) (piece f1 fo d (tl c i)); infer_instance
  td q d c i := by
    match q with
    | 0 => show BI.Storable (upEmb : UEmb _ 𝕄) (piece f1 (fun d => counts (f1 d)) d (tl c i)); infer_instance

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0_k (coordsV c s) iM (Memref.isWhole_whole _) oM (Memref.isWhole_whole _) (Memref.whole cc0_scratch0) (Memref.isWhole_whole _)
          (Memref.whole cc0_scratch1) (Memref.isWhole_whole _) (Memref.whole cc0_scratch2) (Memref.isWhole_whole _) cc0_scratch3 cc0_scratch4 cc0_scoped0) ⟨⟩ c s := rfl

/-- Each tile's obligation: its body's run, from its piece to its piece with the counts in place. -/
theorem tileObl (hI : ∀ d y, (f1 d y).toNat < 5008) : (K (F := F)).TileObl (D (F := F)) 𝒱 (P f1 fo) v₀ 0 := by
  intro d c i O W hO _ _
  simp only [show (P f1 fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hb := tile_body (F := F) d (coordsV ⟨_, hc.1⟩ ⟨_, hc.2⟩) facts (f1 d) (fun y => hI d _) (fo d) O W hO
  rw [show (oP d (cV (coordsV ⟨_, hc.1⟩ ⟨_, hc.2⟩)) (jV (coordsV ⟨_, hc.1⟩ ⟨_, hc.2⟩)) (base (coordsV ⟨_, hc.1⟩ ⟨_, hc.2⟩)) (base (coordsV ⟨_, hc.1⟩ ⟨_, hc.2⟩) + 128)
      (fin (coordsV ⟨_, hc.1⟩ ⟨_, hc.2⟩) (blkI (coordsV ⟨_, hc.1⟩ ⟨_, hc.2⟩) (f1 d))) : sProp 𝕄)
    = oP d (cV (coordsV ⟨_, hc.1⟩ ⟨_, hc.2⟩)) (jV (coordsV ⟨_, hc.1⟩ ⟨_, hc.2⟩)) (base (coordsV ⟨_, hc.1⟩ ⟨_, hc.2⟩)) (base (coordsV ⟨_, hc.1⟩ ⟨_, hc.2⟩) + 128) (counts (f1 d))
    from oP_congr _ _ _ _ _ fun y h h' => fin_counts _ _ y h h'] at hb
  exact hb.trans (wp_mono frame _ _ fun _ => obl_post)

/-- What a core is handed is what its tiles are handed, and what they hand back is what it hands back. -/
theorem vecSplit : (K (F := F)).VecSplit' (P f1 fo) 0 := by
  intro d c
  show (bigSep (Finset.univ : Finset (Fin 16)) fun i => (piece f1 fo d (tl c i) : sProp 𝕄))
    ⊢ |={Set.univ}=> iprop((bigSep (Finset.univ : Finset (Fin 16)) fun i => (piece f1 fo d (tl c i) : sProp 𝕄))
      ∗ ((bigSep (Finset.univ : Finset (Fin 16)) fun i => (piece f1 (fun d => counts (f1 d)) d (tl c i) : sProp 𝕄))
        -∗ bigSep (Finset.univ : Finset (Fin 16)) fun i => (piece f1 (fun d => counts (f1 d)) d (tl c i) : sProp 𝕄)))
  iintro H
  imodintro
  isplitl [H]; · iexact H
  iintro H; iexact H

/-- The pieces of all tiles are the two arrays. -/
theorem pieces_eq (g : Dev nD → S4096x5008.Idx → F .f32) (d : Dev nD) :
    (bigSep (Finset.univ : Finset (Fin 2)) fun c => bigSep (Finset.univ : Finset (Fin 16)) fun i => (piece f1 g d (tl c i) : sProp 𝕄))
      = iprop((iLoc d ↦{fullShare} f1 d) ∗ oLoc d ↦{fullShare} g d) := by
  rw [i_split, o_split]
  unfold piece
  simp only [bigSep_sep']

theorem st0_eq (d : Dev nD) : (bigSep Finset.univ fun c : Fin ((K (F := F)).nCore 0) => (P f1 fo).st 0 d c) = iprop((iLoc d ↦{fullShare} f1 d) ∗ oLoc d ↦{fullShare} fo d) :=
  pieces_eq f1 fo d
theorem dn0_eq (d : Dev nD) : (bigSep Finset.univ fun c : Fin ((K (F := F)).nCore 0) => (P f1 fo).dn 0 d c) = iprop((iLoc d ↦{fullShare} f1 d) ∗ oLoc d ↦{fullShare} counts (f1 d)) :=
  pieces_eq f1 (fun d => counts (f1 d)) d

end Cert.Proof.Counts

end
-- ==== Proof.Entry.lean ====
/-
  The whole entry on the TensorCore: the host operations, the counting call on the SparseCores, the layers' call; the launch's ghost state; and the program's run, every unscoped array named at its end.
-/
module

public import proofs.«01_k».proof.Proof.Ops
public import proofs.«01_k».proof.Proof.Call
public import Idealize.ShloMosaic.Lib.Pipeline.Sound

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.StableHlo (seq seqK after held)
open Idealize.ShloMosaic.Pipeline (Dat cellsGhost toksInit)

variable {F : FTy → Type} [FloatOps F] [Named F]

local notation "𝕄" => MT nD τ sig (HIx 1) (Elt F) ℕ UU ℕ

abbrev v1' : DevRef τ sig := Proc.devRef .tc (main_v1 : Ref sig .tc)
abbrev v2' : DevRef τ sig := Proc.devRef .tc (main_v2 : Ref sig .tc)
abbrev v17' : DevRef τ sig := Proc.devRef .tc (main_v17 : Ref sig .tc)

variable (m : (ℓ : Loc nD τ sig) → Buf (Elt F) ℓ) (ρ : Dev nD → PrngReg)

/-! ## The contents of the arrays, step by step -/

def V0 (d : Dev nD) : Valuation τ sig (Elt F) := fun b => m (d, b)
def V1 (d : Dev nD) : Valuation τ sig (Elt F) := after (ops1 (F := F)) (V0 m d)
def f1 (d : Dev nD) : S4096x64.Idx → BitVec 32 := V1 m d v1'
def fo (d : Dev nD) : S4096x5008.Idx → F .f32 := V1 m d v2'
def V2 (d : Dev nD) : Valuation τ sig (Elt F) := Function.update (V1 m d) v2' (counts (F := F) (f1 m d))
def V3 (d : Dev nD) : Valuation τ sig (Elt F) := after (ops2 (F := F)) (V2 m d)
def W3 (d : Dev nD) (b : Ref sig .tc) : Buf (Elt F) ((d : Thread nD τ).loc b) := V3 m d (Proc.devRef .tc b)
def V4 (d : Dev nD) : Valuation τ sig (Elt F) := Function.update (V3 m d) v17' (layers (W3 m) d)
def W4 (d : Dev nD) (b : Ref sig .tc) : Buf (Elt F) ((d : Thread nD τ).loc b) := V4 m d (Proc.devRef .tc b)
def V5 (d : Dev nD) : Valuation τ sig (Elt F) := after (ops3 (F := F)) (V4 m d)

theorem W4_out (d : Dev nD) : W4 m d main_v17 = layers (W3 m) d := by
  unfold W4 V4; exact Function.update_self v17' (layers (W3 m) d) (V3 m d)
theorem W4_ne (d : Dev nD) (b : Ref sig .tc) (hb : b ≠ main_v17) : W4 m d b = W3 m d b :=
  Function.update_of_ne (fun h => hb (Proc.devRef_injective _ h)) _ _

/-! ## The counting call's two arrays, out of the held set -/

def rest : Finset (DevRef τ sig) := (ucRefs.erase v1').erase v2'

theorem v1_mem : v1' ∈ ucRefs := mem_uc main_v1 (by decide)
theorem v2_mem : v2' ∈ ucRefs.erase v1' := Finset.mem_erase.mpr ⟨by decide, mem_uc main_v2 (by decide)⟩

theorem uc_split : ucRefs = insert v1' (insert v2' rest) := by
  unfold rest; rw [Finset.insert_erase v2_mem, Finset.insert_erase v1_mem]

theorem v2_not : v2' ∉ rest := fun h => absurd rfl (Finset.mem_erase.mp (show v2' ∈ (ucRefs.erase v1').erase v2' from h)).1
theorem v1_not : v1' ∉ insert v2' rest := fun h => by
  rcases Finset.mem_insert.mp h with h | h
  · exact absurd h (by decide)
  · exact absurd rfl (Finset.mem_erase.mp (Finset.mem_erase.mp (show v1' ∈ (ucRefs.erase v1').erase v2' from h)).2).1

theorem held_take (d : Dev nD) (W : Valuation τ sig (Elt F)) :
    (held (T d) ucRefs W : sProp 𝕄) = iprop((iLoc d ↦{fullShare} W v1') ∗ (oLoc d ↦{fullShare} W v2') ∗ held (T d) rest W) := by
  refine (congrArg (fun S => (held (T d) S W : sProp 𝕄)) uc_split).trans ?_
  unfold held
  rw [SparseCore.bigSep_insert' v1_not, SparseCore.bigSep_insert' v2_not]

theorem held_rest (d : Dev nD) : (held (T d) rest (V2 m d) : sProp 𝕄) = held (T d) rest (V1 m d) :=
  StableHlo.held_congr (T d) fun b hb => Function.update_of_ne (fun h => (Finset.mem_erase.mp hb).1 h) _ _

theorem V2_v1 (d : Dev nD) : V2 m d v1' = f1 m d := Function.update_of_ne (by decide) _ _
theorem V2_v2 (d : Dev nD) : V2 m d v2' = counts (F := F) (f1 m d) := Function.update_self _ _ _

theorem held_back (d : Dev nD) :
    (held (T d) ucRefs (V2 m d) : sProp 𝕄) = iprop((iLoc d ↦{fullShare} f1 m d) ∗ (oLoc d ↦{fullShare} counts (F := F) (f1 m d)) ∗ held (T d) rest (V1 m d)) := by
  rw [held_take, held_rest, V2_v1, V2_v2]

/-! ## The launch's ghost state -/

/-- The staging's ghost state of core `d`. -/
def G (d : Dev nD) : sProp 𝕄 :=
  iprop(cellsGhost (Pipeline.pin (pcfgs (F := F)) adm) (EP (F := F)) 0 d ∗ toksInit (Pipeline.pin (pcfgs (F := F)) adm) (EP (F := F)) 0 d)

def u₀ : UU := (Rounds.initOf (K (F := F)).hsCells (K (F := F)).hsToks,
  (Rounds.initOf (Pipeline.cells (Pipeline.pin (pcfgs (F := F)) adm) cellOf_inj) (Pipeline.launchToks (Pipeline.pin (pcfgs (F := F)) adm) cellOf_inj), 1))

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (Rounds.initOf (K (F := F)).hsCells (K (F := F)).hsToks)) ∗ (bigSep Finset.univ fun d : Dev nD => G (F := F) d)
        ∗ bigSep Finset.univ fun thr : Thread nD τ => bigSep Finset.univ fun q : Fin 1 => (P (f1 m) (fo m)).x q thr) := by
  unfold u₀
  iintro Hu
  ihave H := (ownU_pair _ _) $$ Hu
  icases H with ⟨HH, HR⟩
  ihave HR' := (own_pair_emb ER _ _) $$ HR
  icases HR' with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · unfold G
    rw [bigSep_sep']
    isplitl [Hg]
    · rw [show (fun c : Dev nD => bigSep Finset.univ fun p : Fin 1 => cellsGhost (Pipeline.pin (pcfgs (F := F)) adm) (EP (F := F)) p c)
        = fun c => cellsGhost (Pipeline.pin (pcfgs (F := F)) adm) (EP (F := F)) 0 c from funext fun c => by
          rw [show (Finset.univ : Finset (Fin 1)) = {0} from rfl, bigSep_singleton]]
      iexact Hg
    · rw [show (fun c : Dev nD => bigSep Finset.univ fun p : Fin 1 => toksInit (Pipeline.pin (pcfgs (F := F)) adm) (EP (F := F)) p c)
        = fun c => toksInit (Pipeline.pin (pcfgs (F := F)) adm) (EP (F := F)) 0 c from funext fun c => by
          rw [show (Finset.univ : Finset (Fin 1)) = {0} from rfl, bigSep_singleton]]
      iexact Ht
  unfold P; dsimp only
  rw [show (bigSep Finset.univ fun _ : Thread nD τ => bigSep Finset.univ fun _ : Fin 1 => (iprop(emp) : sProp 𝕄)) = iprop(emp) from by
    rw [bigSep_congr fun _ _ => emp_all _, emp_all]]
  iempintro

/-! ## The layers' call -/

theorem wp_region [∀ e, Nonempty (Elt F e)] (d : Dev nD) (Q : PUnit → sProp (MT nD τ sig (HIx 1) (Elt F) ℕ UU ℕ)) :
    iprop((iprop(boundary (d : Thread nD τ) ∗ unscopedBufs d (W4 m d) ∗ owesLow (F := F) 8 d) -∗ Q ⟨⟩)
        ∗ boundary (d : Thread nD τ) ∗ (unscopedBufs d (W3 m d) ∗ owesLow (F := F) 8 d) ∗ levAts (K (F := F)).L (K (F := F)).lev ∗ G (F := F) d)
      ⊢ (wp frame (wpE ((K (F := F)).defs (D (F := F))) 𝒱 (T d) none) Set.univ (.op (.customCall (SparseCore.inner (Pipeline.entry 0)) ()) .ret) Q : sProp 𝕄) := by
  change _ ⊢ wp _ _ _ (SparseCore.liftProg (.op (.customCall (Pipeline.entry (0 : Fin 1)) ()) .ret)) _
  refine BI.Entails.trans ?_ ((K (F := F)).wp_liftProg (D (F := F)) 𝒱 (T d) Set.univ none _ Q)
  refine BI.Entails.trans ?_ (Pipeline.RegionSeg.wp (pcfgs (F := F)) adm (pdats (W3 m) 8) (none : HIx 1) cellOf_inj (EP (F := F)) defs₀ 𝒱₀ (K (F := F)).L (K (F := F)).lev
    (reg (W3 m) 8 (W4 m) (W4_out m) (W4_ne m)) d none (fun u hu => nomatch hu) .ret Q)
  rw [show (reg (W3 m) 8 (W4 m) (W4_out m) (W4_ne m)).pre d = iprop(unscopedBufs d (W3 m d) ∗ owesLow (F := F) 8 d) from rfl,
    show (reg (W3 m) 8 (W4 m) (W4_out m) (W4_ne m)).post d = iprop(unscopedBufs d (W4 m d) ∗ owesLow (F := F) 8 d) from rfl]
  unfold G
  show (_ : sProp 𝕄) ⊢ _
  iintro ⟨Hk, Hb, Hpre, Hl, Hg, Ht⟩
  isplitl [Hk]
  · iintro H
    rw [wp_ret]; imodintro
    iapply Hk; iexact H
  isplitl [Hb]; · iexact Hb
  isplitl [Hpre]; · iexact Hpre
  isplitl [Hl]; · iexact Hl
  isplitl [Hg] <;> iassumption

end Cert.Proof.Counts

end
-- ==== Proof.Run.lean ====
/-
  The entry on the TensorCore, run through; and the program's run, every unscoped array of the TensorCore named at its end.
-/
module

public import proofs.«01_k».proof.Proof.Entry

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.StableHlo (seq seqK after held)

variable {F : FTy → Type} [FloatOps F] [Named F]

local notation "𝕄" => MT nD τ sig (HIx 1) (Elt F) ℕ UU ℕ

variable (m : (ℓ : Loc nD τ sig) → Buf (Elt F) ℓ) (ρ : Dev nD → PrngReg)

abbrev FIN (d : Dev nD) : sProp (MT nD τ sig (HIx 1) (Elt F) ℕ UU ℕ) := held (T d) ucRefs (V5 m d)

theorem tcSt_one (d : Dev nD) : ((K (F := F)).tcSt EH d 1 : sProp 𝕄) ⊢ iprop(owesLow (F := F) 8 d ∗ (owesLow (F := F) 8 d -∗ (K (F := F)).tcSt EH d 1)) := by
  unfold SparseCore.Cfg.tcSt owesLow
  rw [(K (F := F)).Otc_end d le_rfl]
  iintro ⟨HO, Hrest⟩
  isplitl [HO]; · iexact HO
  iintro HO
  isplitl [HO]; · iexact HO
  iexact Hrest

theorem hmain [∀ e, Nonempty (Elt F e)] (κ : GSem nD τ sig → ℕ) (d : Dev nD) :
    iprop((K (F := F)).ctx EH (P (f1 m) (fo m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) ucRefs (V0 m d) from unscoped_held d (V0 m d)]
  rw [main_eq]
  rw [← StableHlo.seq_bind_seqK]
  iintro ⟨#Hctx, Hst, ⟨Hb, Hheld, Hts, -⟩, HG⟩
  iapply (StableHlo.wp_seq 𝒱 none Set.univ d ucRefs _ ops1 ops1_sub ops1_fresh (V0 m d)) $$ [Hb Hheld]
  · isplitl [Hb] <;> iassumption
  iintro ⟨Hb, Hheld⟩
  rw [show after (ops1 (F := F)) (V0 m d) = V1 m d from rfl]
  ihave Hh := (Entails.of_eq (held_take (F := F) d (V1 m d))) $$ Hheld
  icases Hh with ⟨Hi, Ho, Hrest⟩
  rw [wp_bind]
  iapply ((K (F := F)).wp_run (D (F := F)) 𝒱 (EH := EH) (P := P (f1 m) (fo m)) κ d 0) $$ [Hst Hi Ho Hb Hrest Hts HG]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq (f1 m) (fo m) d)) $$ Hdn
  icases Hdn' with ⟨Hi, Ho⟩
  ihave Hheld := (Entails.of_eq (held_back (F := F) m d).symm) $$ [Hi Ho Hrest]
  · isplitl [Hi]; · iexact Hi
    isplitl [Ho]; · iexact Ho
    iexact Hrest
  rw [← StableHlo.seq_bind_seqK]
  iapply (StableHlo.wp_seq 𝒱 none Set.univ d ucRefs _ ops2 ops2_sub ops2_fresh (V2 m d)) $$ [Hb Hheld]
  · isplitl [Hb] <;> iassumption
  iintro ⟨Hb, Hheld⟩
  rw [show after (ops2 (F := F)) (V2 m d) = V3 m d from rfl]
  ihave Hu := (Entails.of_eq (show (held (T d) ucRefs (V3 m d) : sProp 𝕄) = unscopedBufs d (W3 m d) from (unscoped_held (F := F) d (V3 m d)).symm)) $$ Hheld
  ihave Hst0 := (show ((K (F := F)).tcSt EH d ((0 : Fin 1).val + 1) : sProp 𝕄) ⊢ (K (F := F)).tcSt EH d 1 from .rfl) $$ Hst
  ihave Hst' := (tcSt_one (F := F) d) $$ Hst0
  icases Hst' with ⟨HO, Hst⟩
  ihave Hlev := (SparseCore.Cfg.ctx_levAts (K := K (F := F)) κ) $$ Hctx
  rw [wp_bind]
  iapply (wp_region (F := F) m d)
  isplitl [Hst Hts]
  · iintro ⟨Hb, Hu, HO⟩
    ihave Hheld := (Entails.of_eq (show (unscopedBufs d (W4 m d) : sProp 𝕄) = held (T d) ucRefs (V4 m d) from unscoped_held (F := F) d (V4 m d))) $$ Hu
    rw [← StableHlo.seq_bind_seqK]
    iapply (StableHlo.wp_seq 𝒱 none Set.univ d ucRefs _ ops3 ops3_sub ops3_fresh (V4 m d)) $$ [Hb Hheld]
    · isplitl [Hb] <;> iassumption
    iintro ⟨Hb, Hheld⟩
    rw [wp_ret]; imodintro
    isplitl [Hst HO]; · iapply Hst; iexact HO
    isplitl [Hheld]; · iexact Hheld
    isplitl [Hb] <;> iassumption
  isplitl [Hb]; · iexact Hb
  isplitl [Hu HO]
  · isplitl [Hu]; · iexact Hu
    iexact HO
  isplitl [Hlev] <;> iassumption

def fq (d : Dev nD) (s' : Phys nD τ sig (Elt F)) : Prop := ∀ b ∈ ucRefs, s'.mem.mem (d, b) = V5 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) ucRefs) $$ [HSI H]
  · isplitl [HSI] <;> iassumption
  ipureintro
  exact h

def QC : PUnit × MemSt nD τ sig (Elt F) → Prop := fun r => (∀ (c : Dev nD) (b : DevRef τ sig), b ∈ ucRefs → r.2.mem (c, b) = V5 m c b) ∧ r.2.sem = fun _ => 0

theorem run_main [∀ e, Nonempty (Elt F e)] (hI : ∀ d y, (f1 m d y).toNat < 5008) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (f1 m) (fo m)) (A := ∅) facts v₀
    (fun q hq => match q with | 0 => nomatch hq)
    (fun q _ => match q with | 0 => tileObl (f1 m) (fo m) hI)
    (fun q _ => match q with | 0 => SparseCore.Cfg.VecSplit.of_plain (vecSplit (f1 m) (fo m)))
    m ρ main (fun d => G (F := F) d) (FIN m) (u₀ (F := F)) (sep_elim_left.trans (hu₀ m)) (hmain m ρ) (fq m) (hfin m) (QC m) (fun _ h hz => ⟨h, hz⟩)

end Cert.Proof.Counts

end
-- ==== Proof.Contents.lean ====
/-
  What the entry leaves of the arrays it does not write, and the padded indices the counting call reads.
-/
module

public import proofs.«01_k».proof.Proof.Entry
public import Idealize.ShloMosaic.Lib.Pointwise.SelectCore

@[expose] public section

noncomputable section

namespace Cert.Proof.Counts

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.TcCoe
open Idealize.ShloMosaic.StableHlo (seq seqK after held after_cons after_nil)
open Idealize.ShloMosaic.StableHlo

variable {F : FTy → Type} [FloatOps F] [Named F]

local notation "𝕄" => MT nD τ sig (HIx 1) (Elt F) ℕ UU ℕ

variable (m : (ℓ : Loc nD τ sig) → Buf (Elt F) ℓ)

/-- An array no step writes ends as it began. -/
theorem V5_kept (d : Dev nD) (r : Ref sig .tc) (h1 : r ∉ wr1) (h2 : r ∉ wr2) (h3 : r ∉ wr3) (hv2 : r ≠ main_v2) (hv17 : r ≠ main_v17) :
    V5 m d (Proc.devRef .tc r) = m (d, Proc.devRef .tc r) := by
  unfold V5
  rw [ops3_of _ r h3]
  unfold V4
  rw [Function.update_of_ne (fun h => hv17 (Proc.devRef_injective _ h))]
  unfold V3
  rw [ops2_of _ r h2]
  unfold V2
  rw [Function.update_of_ne (fun h => hv2 (Proc.devRef_injective _ h))]
  unfold V1
  rw [ops1_of _ r h1]
  rfl

/-- The indices as the counting call reads them: fifty per row, then fourteen of the spare column. -/
theorem f1_eq (d : Dev nD) : f1 m d = concatenate S4096x64 1 [⟨S4096x50, (m (d, Proc.devRef .tc main_arg0) : S4096x50.Idx → BitVec 32)⟩,
    ⟨S4096x14, broadcastInDim S4096x14 ![] bcast_S_S4096x14 (constantI S_ 32 5002#32)⟩] concatenates_S4096x50_S4096x14_S4096x64_d1 := by
  unfold f1 V1 V0
  simp only [ops1]
  after_results_simp
  rfl

theorem f1_lt (d : Dev nD) (h : ∀ y, ((m (d, Proc.devRef .tc main_arg0) : S4096x50.Idx → BitVec 32) y).toNat < 5002) (y : S4096x64.Idx) : (f1 m d y).toNat < 5008 := by
  rw [f1_eq]
  refine concatenate_forall (P := fun v : BitVec 32 => v.toNat < 5008) _ _ _ _ (fun p hp i => ?_) y
  rcases List.mem_cons.mp hp with rfl | hp
  · exact (h i).trans (by decide)
  · obtain rfl := List.mem_singleton.mp hp
    exact (by decide : (5002#32 : BitVec 32).toNat < 5008)

end Cert.Proof.Counts

end
-- ==== Proof.Frames.lean ====
/-
  The frames: the kernel's two readings and the reference run to their ends, their arguments kept, nothing left in flight.
-/
module

public import proofs.«01_k».proof.Proof.Run
public import proofs.«01_k».proof.Proof.Contents
public import proofs.«01_k».proof.Proof.Gen.Kernel
public import proofs.«01_k».proof.Proof.Gen.Pre_in_vocabulary
public import proofs.«01_k».proof.Proof.Gen.ReferenceIdeal.Run
public import Idealize.ShloMosaic.Lib.ReduceAll

@[expose] public section

noncomputable section

namespace Cert.Proof.Counts

open Idealize.ShloMosaic Idealize.SL.Sem
open Idealize.ShloMosaic.TcCoe
open Cert.KernelIdeal (nD τ sig main_arg0)

/-- A word at least 0 and below 5002, both read signed, is below 5002. -/
theorem word_lt (v : BitVec 32) (e : IntOp.andi (IntOp.cmpi .sge v 0#32) (IntOp.cmpi .slt v 5002#32) = 1#1) : v.toNat < 5002 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition, of any reading of the floats: every index is below 5002. -/
theorem pre_lt {F : FTy → Type} [FloatOps F] (a0 : IVec Cert.Pre_in_vocabulary.S4096x50 32)
    a1 a2 a3 a4 a5 a6 a7 a8 a9 a10 a11
    (h : Cert.Pre_in_vocabulary.fn (F := F) a0 a1 a2 a3 a4 a5 a6 a7 a8 a9 a10 a11 = fun _ => 1#1) (y : Cert.Pre_in_vocabulary.S4096x50.Idx) : (a0 y).toNat < 5002 := by
  have e := congrFun h (fun a => a.elim0)
  simp only [Cert.Pre_in_vocabulary.fn] at e
  haveI : Subsingleton Cert.Pre_in_vocabulary.S_.Idx := ⟨fun a b => funext fun i => i.elim0⟩
  exact word_lt _ (Host.reduce_andi_all _ _ _ _ _ e y)

/-- What the run leaves, read at the arguments. -/
theorem kept {F : FTy → Type} [FloatOps F] [Named F] (m : (ℓ : Loc nD τ sig) → Buf (Elt F) ℓ) (r : PUnit × MemSt nD τ sig (Elt F)) (h : QC m r) (c : Dev nD) (b : Ref sig .tc)
    (hs : ¬ (Proc.devRef .tc b : DevRef τ sig).isScoped) (h1 : b ∉ wr1) (h2 : b ∉ wr2) (h3 : b ∉ wr3) (hv2 : b ≠ Cert.KernelIdeal.main_v2) (hv17 : b ≠ Cert.KernelIdeal.main_v17) :
    r.2.mem ((c.tc : Thread nD τ).loc b) = m ((c.tc : Thread nD τ).loc b) :=
  (h.1 c _ (mem_uc b hs)).trans (V5_kept m c b h1 h2 h3 hv2 hv17)

/-- The arguments, all kept. -/
theorem kept_all {F : FTy → Type} [FloatOps F] [Named F] (m : (ℓ : Loc nD τ sig) → Buf (Elt F) ℓ) (r : PUnit × MemSt nD τ sig (Elt F)) (h : QC m r) (c : Dev nD) :
    r.2.mem ((c.tc : Thread nD τ).loc Cert.KernelIdeal.main_arg0) = m ((c.tc : Thread nD τ).loc Cert.KernelIdeal.main_arg0)
    ∧ r.2.mem ((c.tc : Thread nD τ).loc Cert.KernelIdeal.main_arg1) = m ((c.tc : Thread nD τ).loc Cert.KernelIdeal.main_arg1)
    ∧ r.2.mem ((c.tc : Thread nD τ).loc Cert.KernelIdeal.main_arg2) = m ((c.tc : Thread nD τ).loc Cert.KernelIdeal.main_arg2)
    ∧ r.2.mem ((c.tc : Thread nD τ).loc Cert.KernelIdeal.main_arg3) = m ((c.tc : Thread nD τ).loc Cert.KernelIdeal.main_arg3)
    ∧ r.2.mem ((c.tc : Thread nD τ).loc Cert.KernelIdeal.main_arg4) = m ((c.tc : Thread nD τ).loc Cert.KernelIdeal.main_arg4)
    ∧ r.2.mem ((c.tc : Thread nD τ).loc Cert.KernelIdeal.main_arg5) = m ((c.tc : Thread nD τ).loc Cert.KernelIdeal.main_arg5)
    ∧ r.2.mem ((c.tc : Thread nD τ).loc Cert.KernelIdeal.main_arg6) = m ((c.tc : Thread nD τ).loc Cert.KernelIdeal.main_arg6)
    ∧ r.2.mem ((c.tc : Thread nD τ).loc Cert.KernelIdeal.main_arg7) = m ((c.tc : Thread nD τ).loc Cert.KernelIdeal.main_arg7)
    ∧ r.2.mem ((c.tc : Thread nD τ).loc Cert.KernelIdeal.main_arg8) = m ((c.tc : Thread nD τ).loc Cert.KernelIdeal.main_arg8)
    ∧ r.2.mem ((c.tc : Thread nD τ).loc Cert.KernelIdeal.main_arg9) = m ((c.tc : Thread nD τ).loc Cert.KernelIdeal.main_arg9)
    ∧ r.2.mem ((c.tc : Thread nD τ).loc Cert.KernelIdeal.main_arg10) = m ((c.tc : Thread nD τ).loc Cert.KernelIdeal.main_arg10)
    ∧ r.2.mem ((c.tc : Thread nD τ).loc Cert.KernelIdeal.main_arg11) = m ((c.tc : Thread nD τ).loc Cert.KernelIdeal.main_arg11) :=
  ⟨kept m r h c Cert.KernelIdeal.main_arg0 (by decide) (by decide) (by decide) (by decide) (by decide) (by decide),
    kept m r h c Cert.KernelIdeal.main_arg1 (by decide) (by decide) (by decide) (by decide) (by decide) (by decide),
    kept m r h c Cert.KernelIdeal.main_arg2 (by decide) (by decide) (by decide) (by decide) (by decide) (by decide),
    kept m r h c Cert.KernelIdeal.main_arg3 (by decide) (by decide) (by decide) (by decide) (by decide) (by decide),
    kept m r h c Cert.KernelIdeal.main_arg4 (by decide) (by decide) (by decide) (by decide) (by decide) (by decide),
    kept m r h c Cert.KernelIdeal.main_arg5 (by decide) (by decide) (by decide) (by decide) (by decide) (by decide),
    kept m r h c Cert.KernelIdeal.main_arg6 (by decide) (by decide) (by decide) (by decide) (by decide) (by decide),
    kept m r h c Cert.KernelIdeal.main_arg7 (by decide) (by decide) (by decide) (by decide) (by decide) (by decide),
    kept m r h c Cert.KernelIdeal.main_arg8 (by decide) (by decide) (by decide) (by decide) (by decide) (by decide),
    kept m r h c Cert.KernelIdeal.main_arg9 (by decide) (by decide) (by decide) (by decide) (by decide) (by decide),
    kept m r h c Cert.KernelIdeal.main_arg10 (by decide) (by decide) (by decide) (by decide) (by decide) (by decide),
    kept m r h c Cert.KernelIdeal.main_arg11 (by decide) (by decide) (by decide) (by decide) (by decide) (by decide)⟩

theorem frame_ideal : Cert.quiescent_KernelIdeal := fun m ρ hpre =>
  (θ_run Cert.KernelIdeal.defs _ _).mono (fun r h => ⟨fun c => kept_all m r h c, h.2⟩)
    (run_main (F := Ideal) m ρ (fun d y => f1_lt m d (pre_lt _ _ _ _ _ _ _ _ _ _ _ _ (hpre d)) y))

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem keep : Cert.preserves_Kernel_KernelIdeal := IdealRules.named_const.statement _ _ _ _ _ rfl

end Cert.Proof.Counts

end
-- ==== Proof.FrameBits.lean ====
/-
  The kernel over the uninterpreted floats is the named kernel with its named constant read as its own word.
-/
module

public import proofs.«01_k».proof.Proof.Frames

@[expose] public section

noncomputable section

namespace Cert.Proof.Counts

open Idealize.ShloMosaic Idealize.SL.Sem
open Cert.KernelIdeal (nD τ sig main_arg0)

/-- The uninterpreted reading of the floats, a named constant read as its own word. -/
@[reducible] def namedBits : Named Bits := ⟨fun _ _ {_} bits => Scalar.ofBits _ bits⟩

theorem fused_eq : @Cert.Kernel.cc1__fused_body Bits _ _ = (letI := namedBits; @Cert.KernelIdeal.cc1__fused_body Bits _ _ _) := rfl

theorem tile_eq : @Cert.Kernel.cc0_k Bits _ _ = @Cert.KernelIdeal.cc0_k Bits _ _ := rfl

set_option maxHeartbeats 4000000 in
theorem body_eq : @Cert.Kernel.defs₀ Bits _ _ = (letI := namedBits; @Cert.KernelIdeal.defs₀ Bits _ _ _) := by
  funext p l a
  rcases l with ⟨_ | _ | l, hl⟩
  · cases p <;> rfl
  · obtain ⟨t, s⟩ := a
    cases p
    · exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun fused_eq _) _) _) _) _) _) _) _) _) _) _) _) _) _) _) _) _) _) _) _) _) _) _) _) _) _) _
    · rfl
    · rfl
  · exact absurd hl (by omega)

theorem defs_eq : Cert.Kernel.defs (F := Bits) = (letI := namedBits; Cert.KernelIdeal.defs (F := Bits)) := by
  letI := namedBits
  unfold Cert.Kernel.defs Cert.KernelIdeal.defs
  rw [body_eq]
  rfl

theorem threads_eq : Cert.Kernel.threads (F := Bits) = (letI := namedBits; Cert.KernelIdeal.threads (F := Bits)) := rfl

theorem frame_bits : Cert.quiescent_Kernel := fun m ρ hpre => by
  letI := namedBits
  have h := (θ_run Cert.KernelIdeal.defs _ _).mono (fun r h => (⟨fun c => kept_all m r h c, h.2⟩ : (∀ c, _) ∧ _))
    (run_main (F := Bits) m ρ (fun d y => f1_lt m d (pre_lt _ _ _ _ _ _ _ _ _ _ _ _ (hpre d)) y))
  rw [defs_eq, threads_eq]
  exact h

end Cert.Proof.Counts

end
-- ==== Proof.Arrays.lean ====
/-
  The arrays the layers' call reads, each as an array the entry began with, rounded, reshaped or padded.
-/
module

public import proofs.«01_k».proof.Proof.Contents

@[expose] public section

noncomputable section

namespace Cert.Proof.Counts

open Cert.KernelIdeal Cert.KernelIdeal.Gen
open Idealize.ShloMosaic
open Idealize.ShloMosaic.TcCoe
open Idealize.ShloMosaic.StableHlo (seq seqK after held after_cons after_nil)
open Idealize.ShloMosaic.StableHlo

variable {F : FTy → Type} [FloatOps F] [Named F]

variable (m : (ℓ : Loc nD τ sig) → Buf (Elt F) ℓ) (d : Dev nD)

/-! ## The entry's arrays -/

def arg0 : S4096x50.Idx → BitVec 32 := m (d, Proc.devRef .tc main_arg0)
def arg1 : S5002x800.Idx → F .f32 := m (d, Proc.devRef .tc main_arg1)
def arg2 : S800x2048.Idx → F .f32 := m (d, Proc.devRef .tc main_arg2)
def arg3 : S2048.Idx → F .f32 := m (d, Proc.devRef .tc main_arg3)
def arg4 : S2048x1024.Idx → F .f32 := m (d, Proc.devRef .tc main_arg4)
def arg5 : S1024.Idx → F .f32 := m (d, Proc.devRef .tc main_arg5)
def arg6 : S1024x512.Idx → F .f32 := m (d, Proc.devRef .tc main_arg6)
def arg7 : S512.Idx → F .f32 := m (d, Proc.devRef .tc main_arg7)
def arg8 : S512x256.Idx → F .f32 := m (d, Proc.devRef .tc main_arg8)
def arg9 : S256.Idx → F .f32 := m (d, Proc.devRef .tc main_arg9)
def arg10 : S256x2.Idx → F .f32 := m (d, Proc.devRef .tc main_arg10)
def arg11 : S2.Idx → F .f32 := m (d, Proc.devRef .tc main_arg11)

/-- An array not yet written, between the two calls. -/
theorem V2_kept (r : Ref sig .tc) (h1 : r ∉ wr1) (hv2 : r ≠ main_v2) : V2 m d (Proc.devRef .tc r) = m (d, Proc.devRef .tc r) := by
  unfold V2
  rw [Function.update_of_ne (fun h => hv2 (Proc.devRef_injective _ h))]
  unfold V1
  rw [ops1_of _ r h1]
  rfl

/-! ## The layers' operands -/

/-- The zero the padding writes. -/
def pz : S_.Idx → F .f32 := sitofp .f32 (constantI S_ 32 0#32)

theorem w2 : (W3 m d main_v2 : S4096x5008.Idx → F .f32) = counts (F := F) (f1 m d) := by
  unfold W3 V3
  rw [ops2_of _ main_v2 (by decide)]
  exact V2_v2 m d

theorem w4 : (W3 m d main_v4 : S5008x800.Idx → F .bf16) = truncf .bf16 (pad S5008x800 ![0, 0] ![6, 0] ![0, 0] (arg1 m d) (pz (F := F)) pads_S5002x800_S5008x800_060_000 h_S_) bitsLt_bf16_f32 := by
  have h := V2_kept m d main_arg1 (by decide) (by decide)
  unfold W3 V3
  simp only [ops2]
  after_results_simp
  rw [h]
  rfl

theorem w7 : (W3 m d main_v7 : S800x2048.Idx → F .bf16) = truncf .bf16 (arg2 m d) bitsLt_bf16_f32 := by
  have h := V2_kept m d main_arg2 (by decide) (by decide)
  unfold W3 V3
  simp only [ops2]
  after_results_simp
  rw [h]
  rfl

theorem w8 : (W3 m d main_v8 : S1x2048.Idx → F .f32) = shapeCast S1x2048 (arg3 m d) shapeCasts_S2048_S1x2048 := by
  have h := V2_kept m d main_arg3 (by decide) (by decide)
  unfold W3 V3
  simp only [ops2]
  after_results_simp
  rw [h]
  rfl

theorem w9 : (W3 m d main_v9 : S2048x1024.Idx → F .bf16) = truncf .bf16 (arg4 m d) bitsLt_bf16_f32 := by
  have h := V2_kept m d main_arg4 (by decide) (by decide)
  unfold W3 V3
  simp only [ops2]
  after_results_simp
  rw [h]
  rfl

theorem w10 : (W3 m d main_v10 : S1x1024.Idx → F .f32) = shapeCast S1x1024 (arg5 m d) shapeCasts_S1024_S1x1024 := by
  have h := V2_kept m d main_arg5 (by decide) (by decide)
  unfold W3 V3
  simp only [ops2]
  after_results_simp
  rw [h]
  rfl

theorem w11 : (W3 m d main_v11 : S1024x512.Idx → F .bf16) = truncf .bf16 (arg6 m d) bitsLt_bf16_f32 := by
  have h := V2_kept m d main_arg6 (by decide) (by decide)
  unfold W3 V3
  simp only [ops2]
  after_results_simp
  rw [h]
  rfl

theorem w12 : (W3 m d main_v12 : S1x512.Idx → F .f32) = shapeCast S1x512 (arg7 m d) shapeCasts_S512_S1x512 := by
  have h := V2_kept m d main_arg7 (by decide) (by decide)
  unfold W3 V3
  simp only [ops2]
  after_results_simp
  rw [h]
  rfl

theorem w13 : (W3 m d main_v13 : S512x256.Idx → F .bf16) = truncf .bf16 (arg8 m d) bitsLt_bf16_f32 := by
  have h := V2_kept m d main_arg8 (by decide) (by decide)
  unfold W3 V3
  simp only [ops2]
  after_results_simp
  rw [h]
  rfl

theorem w14 : (W3 m d main_v14 : S1x256.Idx → F .f32) = shapeCast S1x256 (arg9 m d) shapeCasts_S256_S1x256 := by
  have h := V2_kept m d main_arg9 (by decide) (by decide)
  unfold W3 V3
  simp only [ops2]
  after_results_simp
  rw [h]
  rfl

theorem w15 : (W3 m d main_v15 : S256x128.Idx → F .bf16) = truncf .bf16 (pad S256x128 ![0, 0] ![0, 126] ![0, 0] (arg10 m d) (pz (F := F)) pads_S256x2_S256x128_000_01260 h_S_) bitsLt_bf16_f32 := by
  have h := V2_kept m d main_arg10 (by decide) (by decide)
  unfold W3 V3
  simp only [ops2]
  after_results_simp
  rw [h]
  rfl

theorem w16 : (W3 m d main_v16 : S1x128.Idx → F .f32) = shapeCast S1x128 (pad S128 ![0] ![126] ![0] (arg11 m d) (pz (F := F)) pads_S2_S128_01260 h_S_) shapeCasts_S128_S1x128 := by
  have h := V2_kept m d main_arg11 (by decide) (by decide)
  unfold W3 V3
  simp only [ops2]
  after_results_simp
  rw [h]
  rfl

/-- The entry's result: the first two columns of the layers' result. -/
theorem v18 : (V5 m d (Proc.devRef .tc main_v18) : S4096x2.Idx → F .f32)
    = extractStridedSlice S4096x2 ![0, 0] (layers (W3 m) d : S4096x128.Idx → F .f32) slices_S4096x128_S4096x2_0_0 := by
  have h : V4 m d v17' = layers (W3 m) d := W4_out m d
  unfold V5
  simp only [ops3]
  after_results_simp
  exact congrArg (fun x : S4096x128.Idx → F .f32 => extractStridedSlice S4096x2 ![0, 0] x slices_S4096x128_S4096x2_0_0) h

end Cert.Proof.Counts

end
-- ==== Proof.Dense.lean ====
/-
  The dense layers in textbook form, and the kernel's block of them read at an element, over the extended reals.
-/
module

public import proofs.«01_k».proof.Proof.LayersBody
public import Idealize.ShloMosaic.Lib.Pointwise

@[expose] public section

noncomputable section

namespace Cert.Proof.Counts

open Cert.KernelIdeal Cert.KernelIdeal.Gen
open Idealize.ShloMosaic

/-- A dense layer: the vector times the weights, plus the bias. -/
def lin {K N : ℕ} (x : Fin K → EReal) (W : Fin K → Fin N → EReal) (b : Fin N → EReal) : Fin N → EReal := fun j => ∑ k, x k * W k j + b j

/-- A dense layer followed by the rectifier. -/
def act {K N : ℕ} (x : Fin K → EReal) (W : Fin K → Fin N → EReal) (b : Fin N → EReal) : Fin N → EReal := fun j => max (lin x W b j) 0

/-- The five layers, the last without the rectifier. -/
def net {N : ℕ} (p : Fin 800 → EReal) (W1 : Fin 800 → Fin 2048 → EReal) (b1 : Fin 2048 → EReal) (W2 : Fin 2048 → Fin 1024 → EReal) (b2 : Fin 1024 → EReal)
    (W3 : Fin 1024 → Fin 512 → EReal) (b3 : Fin 512 → EReal) (W4 : Fin 512 → Fin 256 → EReal) (b4 : Fin 256 → EReal) (W5 : Fin 256 → Fin N → EReal) (b5 : Fin N → EReal) : Fin N → EReal :=
  lin (act (act (act (act p W1 b1) W2 b2) W3 b3) W4 b4) W5 b5

/-- The first four layers' sums, from the counts and the table. -/
theorem pay2_apply (X0 : S512x5008.Idx → Ideal .f32) (X1 : S5008x800.Idx → Ideal .bf16) (X2 : S800x2048.Idx → Ideal .bf16) (X3 : S1x2048.Idx → Ideal .f32) (X4 : S2048x1024.Idx → Ideal .bf16) (X5 : S1x1024.Idx → Ideal .f32) (X6 : S1024x512.Idx → Ideal .bf16) (X7 : S1x512.Idx → Ideal .f32) (i : Fin 512) (j : Fin 512) :
    k1_pay2 (F := Ideal) X0 X1 X2 X3 X4 X5 X6 X7 (ix2 i j)
      = lin (act (act (fun e => (∑ x, X0 (ix2 i x) * X1 (ix2 x e)) * ((1 / 50 : ℝ) : EReal)) (fun k n => X2 (ix2 k n)) (fun n => X3 (ix2 0 n))) (fun k n => X4 (ix2 k n)) (fun n => X5 (ix2 0 n))) (fun k n => X6 (ix2 k n)) (fun n => X7 (ix2 0 n)) j := by
  have hc : (Named.named (F := Ideal) (φ := .f32) κ "mean" 0x3CA3D70A#32) = ((1 / 50 : ℝ) : EReal) :=
    IdealRules.named_const.ideal_named_scalar κ "mean" _ _ rfl
  pointwise [k1_pay2, lin, act, hc]

/-- The last two layers. -/
theorem pay1_apply (Y : S512x512.Idx → Ideal .f32) (X8 : S512x256.Idx → Ideal .bf16) (X9 : S1x256.Idx → Ideal .f32) (X10 : S256x128.Idx → Ideal .bf16) (X11 : S1x128.Idx → Ideal .f32) (i : Fin 512) (j : Fin 128) :
    k1_pay1 (F := Ideal) Y X8 X9 X10 X11 (ix2 i j)
      = lin (act (fun k => max (Y (ix2 i k)) 0) (fun k n => X8 (ix2 k n)) (fun n => X9 (ix2 0 n))) (fun k n => X10 (ix2 k n)) (fun n => X11 (ix2 0 n)) j := by
  pointwise [k1_pay1, lin, act]

/-- The block the kernel's layers write, read at an element: the layers of the block's row. -/
theorem outB_apply (X0 : S512x5008.Idx → Ideal .f32) (X1 : S5008x800.Idx → Ideal .bf16) (X2 : S800x2048.Idx → Ideal .bf16) (X3 : S1x2048.Idx → Ideal .f32) (X4 : S2048x1024.Idx → Ideal .bf16) (X5 : S1x1024.Idx → Ideal .f32) (X6 : S1024x512.Idx → Ideal .bf16) (X7 : S1x512.Idx → Ideal .f32) (X8 : S512x256.Idx → Ideal .bf16) (X9 : S1x256.Idx → Ideal .f32) (X10 : S256x128.Idx → Ideal .bf16) (X11 : S1x128.Idx → Ideal .f32) (i : Fin 512) (j : Fin 128) :
    outB (F := Ideal) X0 X1 X2 X3 X4 X5 X6 X7 X8 X9 X10 X11 (ix2 i j)
      = net (fun e => (∑ x, X0 (ix2 i x) * X1 (ix2 x e)) * ((1 / 50 : ℝ) : EReal)) (fun k n => X2 (ix2 k n)) (fun n => X3 (ix2 0 n))
          (fun k n => X4 (ix2 k n)) (fun n => X5 (ix2 0 n)) (fun k n => X6 (ix2 k n)) (fun n => X7 (ix2 0 n)) (fun k n => X8 (ix2 k n)) (fun n => X9 (ix2 0 n))
          (fun k n => X10 (ix2 k n)) (fun n => X11 (ix2 0 n)) j := by
  unfold outB net
  rw [pay1_apply]
  refine congrArg (fun f => lin (act f _ _) _ _ j) (funext fun k => ?_)
  rw [pay2_apply]
  rfl

end Cert.Proof.Counts

end
-- ==== Proof.Blocks.lean ====
/-
  The layers' blocks at coordinates, and the layers' result at an element: the dense layers of that element's row.
-/
module

public import proofs.«01_k».proof.Proof.Region
public import proofs.«01_k».proof.Proof.Dense
public import Idealize.ShloMosaic.Lib.Pipeline.ValueKit.Geometry

@[expose] public section

noncomputable section

namespace Cert.Proof.Counts

open Cert.KernelIdeal Cert.KernelIdeal.Gen
open Idealize.ShloMosaic
open Idealize.ShloMosaic.TcCoe

variable (V : (c : Dev nD) → (b : Ref sig .tc) → Buf (Elt Ideal) ((c : Thread nD τ).loc b)) (c : Dev nD)

/-- The counts' row under a point's row. -/
theorem row_lt (t : Fin cfg1.N) (i : Fin 512) : 512 * t.val + i.val < 4096 := by
  have h1 : t.val < 8 := t.isLt
  have h2 := i.isLt
  omega

theorem idx0 (t : Fin cfg1.N) : win1_0.index t = ![t.val, 0] := (by decide +kernel : ∀ t : Fin grid1.N, win1_0.index t = ![t.val, 0]) t
theorem idx12 (t : Fin cfg1.N) : win1_12.index t = ![t.val, 0] := (by decide +kernel : ∀ t : Fin grid1.N, win1_12.index t = ![t.val, 0]) t

theorem rd0 (t : Fin cfg1.N) (i : Fin 512) (x : Fin 5008) :
    (blk0 V c t : S512x5008.Idx → EReal) (ix2 i x) = (V c main_v2 : S4096x5008.Idx → EReal) (ix2 ⟨512 * t.val + i.val, row_lt t i⟩ x) := by
  refine congrArg (V c main_v2 : S4096x5008.Idx → EReal) ?_
  have e := idx0 t
  funext a; refine Fin.ext ?_
  have ha : a = 0 ∨ a = 1 := match a with
    | ⟨0, _⟩ => Or.inl rfl
    | ⟨1, _⟩ => Or.inr rfl
  rcases ha with rfl | rfl
  · show win1_0.index t 0 * 512 + 1 * i.val = 512 * t.val + i.val
    rw [e]; show t.val * 512 + 1 * i.val = _; omega
  · show win1_0.index t 1 * 5008 + 1 * x.val = x.val
    rw [e]; show 0 * 5008 + 1 * x.val = _; omega

theorem emb12 (t : Fin cfg1.N) (i : Fin 512) (j : Fin 128) :
    (win1_12.blk t).view.emb (ix2 i j : S512x128.Idx) = (ix2 (⟨512 * t.val + i.val, row_lt t i⟩ : Fin 4096) j : S4096x128.Idx) := by
  have e := idx12 t
  funext a; refine Fin.ext ?_
  have ha : a = 0 ∨ a = 1 := match a with
    | ⟨0, _⟩ => Or.inl rfl
    | ⟨1, _⟩ => Or.inr rfl
  rcases ha with rfl | rfl
  · show win1_12.index t 0 * 512 + 1 * i.val = 512 * t.val + i.val
    rw [e]; show t.val * 512 + 1 * i.val = _; omega
  · show win1_12.index t 1 * 128 + 1 * j.val = j.val
    rw [e]; show 0 * 128 + 1 * j.val = _; omega

theorem rd1 (t : Fin cfg1.N) (k : Fin 5008) (n : Fin 800) :
    (blk1 V c t : S5008x800.Idx → EReal) (ix2 k n) = (V c main_v4 : S5008x800.Idx → EReal) (ix2 k n) := by
  refine congrArg (V c main_v4 : S5008x800.Idx → EReal) ?_
  funext a; refine Fin.ext ?_
  have ha : a = 0 ∨ a = 1 := match a with
    | ⟨0, _⟩ => Or.inl rfl
    | ⟨1, _⟩ => Or.inr rfl
  rcases ha with rfl | rfl
  · show 0 * 5008 + 1 * k.val = k.val; omega
  · show 0 * 800 + 1 * n.val = n.val; omega

theorem rd2 (t : Fin cfg1.N) (k : Fin 800) (n : Fin 2048) :
    (blk2 V c t : S800x2048.Idx → EReal) (ix2 k n) = (V c main_v7 : S800x2048.Idx → EReal) (ix2 k n) := by
  refine congrArg (V c main_v7 : S800x2048.Idx → EReal) ?_
  funext a; refine Fin.ext ?_
  have ha : a = 0 ∨ a = 1 := match a with
    | ⟨0, _⟩ => Or.inl rfl
    | ⟨1, _⟩ => Or.inr rfl
  rcases ha with rfl | rfl
  · show 0 * 800 + 1 * k.val = k.val; omega
  · show 0 * 2048 + 1 * n.val = n.val; omega

theorem rd3 (t : Fin cfg1.N) (k : Fin 1) (n : Fin 2048) :
    (blk3 V c t : S1x2048.Idx → EReal) (ix2 k n) = (V c main_v8 : S1x2048.Idx → EReal) (ix2 k n) := by
  refine congrArg (V c main_v8 : S1x2048.Idx → EReal) ?_
  funext a; refine Fin.ext ?_
  have ha : a = 0 ∨ a = 1 := match a with
    | ⟨0, _⟩ => Or.inl rfl
    | ⟨1, _⟩ => Or.inr rfl
  rcases ha with rfl | rfl
  · show 0 * 1 + 1 * k.val = k.val; omega
  · show 0 * 2048 + 1 * n.val = n.val; omega

theorem rd4 (t : Fin cfg1.N) (k : Fin 2048) (n : Fin 1024) :
    (blk4 V c t : S2048x1024.Idx → EReal) (ix2 k n) = (V c main_v9 : S2048x1024.Idx → EReal) (ix2 k n) := by
  refine congrArg (V c main_v9 : S2048x1024.Idx → EReal) ?_
  funext a; refine Fin.ext ?_
  have ha : a = 0 ∨ a = 1 := match a with
    | ⟨0, _⟩ => Or.inl rfl
    | ⟨1, _⟩ => Or.inr rfl
  rcases ha with rfl | rfl
  · show 0 * 2048 + 1 * k.val = k.val; omega
  · show 0 * 1024 + 1 * n.val = n.val; omega

theorem rd5 (t : Fin cfg1.N) (k : Fin 1) (n : Fin 1024) :
    (blk5 V c t : S1x1024.Idx → EReal) (ix2 k n) = (V c main_v10 : S1x1024.Idx → EReal) (ix2 k n) := by
  refine congrArg (V c main_v10 : S1x1024.Idx → EReal) ?_
  funext a; refine Fin.ext ?_
  have ha : a = 0 ∨ a = 1 := match a with
    | ⟨0, _⟩ => Or.inl rfl
    | ⟨1, _⟩ => Or.inr rfl
  rcases ha with rfl | rfl
  · show 0 * 1 + 1 * k.val = k.val; omega
  · show 0 * 1024 + 1 * n.val = n.val; omega

theorem rd6 (t : Fin cfg1.N) (k : Fin 1024) (n : Fin 512) :
    (blk6 V c t : S1024x512.Idx → EReal) (ix2 k n) = (V c main_v11 : S1024x512.Idx → EReal) (ix2 k n) := by
  refine congrArg (V c main_v11 : S1024x512.Idx → EReal) ?_
  funext a; refine Fin.ext ?_
  have ha : a = 0 ∨ a = 1 := match a with
    | ⟨0, _⟩ => Or.inl rfl
    | ⟨1, _⟩ => Or.inr rfl
  rcases ha with rfl | rfl
  · show 0 * 1024 + 1 * k.val = k.val; omega
  · show 0 * 512 + 1 * n.val = n.val; omega

theorem rd7 (t : Fin cfg1.N) (k : Fin 1) (n : Fin 512) :
    (blk7 V c t : S1x512.Idx → EReal) (ix2 k n) = (V c main_v12 : S1x512.Idx → EReal) (ix2 k n) := by
  refine congrArg (V c main_v12 : S1x512.Idx → EReal) ?_
  funext a; refine Fin.ext ?_
  have ha : a = 0 ∨ a = 1 := match a with
    | ⟨0, _⟩ => Or.inl rfl
    | ⟨1, _⟩ => Or.inr rfl
  rcases ha with rfl | rfl
  · show 0 * 1 + 1 * k.val = k.val; omega
  · show 0 * 512 + 1 * n.val = n.val; omega

theorem rd8 (t : Fin cfg1.N) (k : Fin 512) (n : Fin 256) :
    (blk8 V c t : S512x256.Idx → EReal) (ix2 k n) = (V c main_v13 : S512x256.Idx → EReal) (ix2 k n) := by
  refine congrArg (V c main_v13 : S512x256.Idx → EReal) ?_
  funext a; refine Fin.ext ?_
  have ha : a = 0 ∨ a = 1 := match a with
    | ⟨0, _⟩ => Or.inl rfl
    | ⟨1, _⟩ => Or.inr rfl
  rcases ha with rfl | rfl
  · show 0 * 512 + 1 * k.val = k.val; omega
  · show 0 * 256 + 1 * n.val = n.val; omega

theorem rd9 (t : Fin cfg1.N) (k : Fin 1) (n : Fin 256) :
    (blk9 V c t : S1x256.Idx → EReal) (ix2 k n) = (V c main_v14 : S1x256.Idx → EReal) (ix2 k n) := by
  refine congrArg (V c main_v14 : S1x256.Idx → EReal) ?_
  funext a; refine Fin.ext ?_
  have ha : a = 0 ∨ a = 1 := match a with
    | ⟨0, _⟩ => Or.inl rfl
    | ⟨1, _⟩ => Or.inr rfl
  rcases ha with rfl | rfl
  · show 0 * 1 + 1 * k.val = k.val; omega
  · show 0 * 256 + 1 * n.val = n.val; omega

theorem rd10 (t : Fin cfg1.N) (k : Fin 256) (n : Fin 128) :
    (blk10 V c t : S256x128.Idx → EReal) (ix2 k n) = (V c main_v15 : S256x128.Idx → EReal) (ix2 k n) := by
  refine congrArg (V c main_v15 : S256x128.Idx → EReal) ?_
  funext a; refine Fin.ext ?_
  have ha : a = 0 ∨ a = 1 := match a with
    | ⟨0, _⟩ => Or.inl rfl
    | ⟨1, _⟩ => Or.inr rfl
  rcases ha with rfl | rfl
  · show 0 * 256 + 1 * k.val = k.val; omega
  · show 0 * 128 + 1 * n.val = n.val; omega

theorem rd11 (t : Fin cfg1.N) (k : Fin 1) (n : Fin 128) :
    (blk11 V c t : S1x128.Idx → EReal) (ix2 k n) = (V c main_v16 : S1x128.Idx → EReal) (ix2 k n) := by
  refine congrArg (V c main_v16 : S1x128.Idx → EReal) ?_
  funext a; refine Fin.ext ?_
  have ha : a = 0 ∨ a = 1 := match a with
    | ⟨0, _⟩ => Or.inl rfl
    | ⟨1, _⟩ => Or.inr rfl
  rcases ha with rfl | rfl
  · show 0 * 1 + 1 * k.val = k.val; omega
  · show 0 * 128 + 1 * n.val = n.val; omega

/-- A row of counts against a column of the table. -/
def dotAt (A : S4096x5008.Idx → EReal) (E : S5008x800.Idx → EReal) (r : Fin 4096) (e : Fin 800) : EReal := ∑ x : Fin 5008, A (ix2 r x) * E (ix2 x e)

/-- The layers of a row of the counts. -/
def layersAt (r : Fin 4096) : Fin 128 → EReal :=
  net (fun e => dotAt (V c main_v2) (V c main_v4) r e * ((1 / 50 : ℝ) : EReal))
    (fun k n => (V c main_v7 : S800x2048.Idx → EReal) (ix2 k n)) (fun n => (V c main_v8 : S1x2048.Idx → EReal) (ix2 0 n))
    (fun k n => (V c main_v9 : S2048x1024.Idx → EReal) (ix2 k n)) (fun n => (V c main_v10 : S1x1024.Idx → EReal) (ix2 0 n))
    (fun k n => (V c main_v11 : S1024x512.Idx → EReal) (ix2 k n)) (fun n => (V c main_v12 : S1x512.Idx → EReal) (ix2 0 n))
    (fun k n => (V c main_v13 : S512x256.Idx → EReal) (ix2 k n)) (fun n => (V c main_v14 : S1x256.Idx → EReal) (ix2 0 n))
    (fun k n => (V c main_v15 : S256x128.Idx → EReal) (ix2 k n)) (fun n => (V c main_v16 : S1x128.Idx → EReal) (ix2 0 n))

theorem outT_apply (t : Fin cfg1.N) (i : Fin 512) (j : Fin 128) : outT (F := Ideal) V c t (ix2 i j) = layersAt V c ⟨512 * t.val + i.val, row_lt t i⟩ j := by
  unfold outT layersAt dotAt
  refine (outB_apply _ _ _ _ _ _ _ _ _ _ _ _ i j).trans ?_
  simp only [rd0, rd1, rd2, rd3, rd4, rd5, rd6, rd7, rd8, rd9, rd10, rd11]

/-- The layers' result at an element. -/
theorem layers_apply (r : Fin 4096) (j : Fin 128) : (layers V c : S4096x128.Idx → EReal) (ix2 r j) = layersAt V c r j := by
  have h : (dat V 0 c).arrAt 12 cfg1.N = (fun y : S4096x128.Idx => layersAt V c (y 0) (y 1)) := by
    refine (dat V 0 c).arrAt_eq_of_covers 12 _ (by decide +kernel) fun t hf y => ?_
    obtain ⟨i, j, rfl⟩ : ∃ (i : Fin 512) (j : Fin 128), y = (ix2 i j : S512x128.Idx) := ⟨y 0, y 1, eq_ix2 y⟩
    refine (outT_apply V c t i j).trans ?_
    exact (congrArg (fun y : S4096x128.Idx => layersAt V c (y 0) (y 1)) (emb12 t i j)).symm
  exact congrFun h (ix2 r j)

end Cert.Proof.Counts

end
-- ==== Proof.Tally.lean ====
/-
  A row of counts over the extended reals: column `x` is the number of the row's sixty-four index words that are `x`; and what a
  row of counts makes of a table.
-/
module

public import proofs.«01_k».proof.Proof.Rows
public import Idealize.ShloMosaic.Lib.Pointwise

@[expose] public section

noncomputable section

namespace Cert.Proof.Counts

open Cert.KernelIdeal Cert.KernelIdeal.Gen
open Idealize.ShloMosaic

/-- One where the word is `x`, zero elsewhere. -/
def ind (v : BitVec 32) (x : ℕ) : EReal := if v.toNat = x then 1 else 0

theorem ind_nonneg (v : BitVec 32) (x : ℕ) : 0 ≤ ind v x := by unfold ind; split_ifs <;> simp

theorem ln_injective : Function.Injective (fun k : Fin 16 => ln k) := fun a b h => Fin.ext (congrArg Fin.val (congrFun h 0))

theorem ln_surjective (x : S16.Idx) : ∃ k : Fin 16, ln k = x := ⟨x 0, by
  funext a
  obtain rfl : a = 0 := Subsingleton.elim _ _
  rfl⟩

/-- A lane's place in row-major order is its number. -/
theorem pos_ln (k : Fin 16) : (S16.rowMajor (ln k)).val = k.val := by
  exact Idealize.ShloMosaic.rowMajor_val1 (d := ![16]) (ln k)

/-- The mask marks the last lane of each word. -/
theorem msk_iff (v : V16) (k : Fin 16) : msk v (ln k) = 1 ↔ ∀ j : Fin 16, k < j → v (ln j) ≠ v (ln k) := by
  have h : (∀ j : S16.Idx, (S16.rowMajor (ln k)).val < (S16.rowMajor j).val → ¬ ((1#1 : BitVec 1) = 1 ∧ v j = v (ln k))) ↔ ∀ j : Fin 16, k < j → v (ln j) ≠ v (ln k) := by
    constructor
    · intro h j hj he
      exact h (ln j) (by rw [pos_ln, pos_ln]; exact hj) ⟨rfl, he⟩
    · intro h x hx he
      obtain ⟨j, rfl⟩ := ln_surjective x
      rw [pos_ln, pos_ln] at hx
      exact h j hx he.2
  have hi (P : Prop) {_ : Decidable P} : (if P then (1 : BitVec 1) else 0) = 1 ↔ P := by
    by_cases hP : P
    · rw [if_pos hP]; exact ⟨fun _ => hP, fun _ => rfl⟩
    · rw [if_neg hP]; exact ⟨fun hc => absurd hc (by decide), fun hc => absurd hc hP⟩
  rw [← h]
  refine Iff.trans (hi _) ?_
  exact ⟨fun hh => hh.2, fun hh => ⟨rfl, hh⟩⟩

/-- A lane's count: how many lanes up to it hold its word. -/
theorem cnts_eq (v : V16) (k : Fin 16) : (cnts v (ln k) : Ideal .f32) = (((Finset.univ.filter fun j : Fin 16 => j ≤ k ∧ v (ln j) = v (ln k)).card : ℝ) : EReal) := by
  have hc : (Finset.univ.filter fun x : S16.Idx => (S16.rowMajor x).val ≤ (S16.rowMajor (ln k)).val ∧ (1#1 : BitVec 1) = 1 ∧ v x = v (ln k)).card
      = (Finset.univ.filter fun j : Fin 16 => j ≤ k ∧ v (ln j) = v (ln k)).card := by
    symm
    refine Finset.card_bij (fun j _ => ln j) ?_ (fun a _ b _ h => ln_injective h) ?_
    · intro j hj
      have hj := (Finset.mem_filter.mp hj).2
      refine Finset.mem_filter.mpr ⟨Finset.mem_univ _, ?_, rfl, hj.2⟩
      rw [pos_ln, pos_ln]; exact hj.1
    · intro x hx
      obtain ⟨j, rfl⟩ := ln_surjective x
      have hx := (Finset.mem_filter.mp hx).2
      rw [pos_ln, pos_ln] at hx
      exact ⟨j, Finset.mem_filter.mpr ⟨Finset.mem_univ _, hx.1, hx.2.2⟩, rfl⟩
  have hlt : (Finset.univ.filter fun j : Fin 16 => j ≤ k ∧ v (ln j) = v (ln k)).card ≤ 16 := (Finset.card_le_univ _).trans (by simp)
  refine (congrArg (fun b : BitVec 32 => ((b.toInt : ℝ) : EReal)) (if_pos rfl)).trans ?_
  refine (congrArg (fun n : ℕ => (((BitVec.ofNat 32 n).toInt : ℝ) : EReal)) hc).trans ?_
  beta_reduce
  rw [BitVec.toInt_eq_toNat_cond, BitVec.toNat_ofNat, Nat.mod_eq_of_lt (by omega), if_pos (by omega)]
  simp

/-- An adding scatter of a chunk adds to a column the number of the chunk's lanes naming it. -/
theorem colAdd_eq (v : V16) (x : ℕ) (y : Ideal .f32) : (colAdd (F := Ideal) v x y : EReal) = y + ∑ k : Fin 16, ind (v (ln k)) x := by
  have hfold : ∀ (l : List (Fin 16)) (y : EReal), l.foldl (fun (y : Ideal .f32) k => if msk v (ln k) = 1 then (if (v (ln k)).toNat = x then FloatOps.idxAddf y (cnts (F := Ideal) v (ln k)) else y) else y) y
      = y + (l.map fun k => if msk v (ln k) = 1 ∧ (v (ln k)).toNat = x then (cnts (F := Ideal) v (ln k) : EReal) else 0).sum := by
    intro l
    induction l with
    | nil => intro y; simp
    | cons k l ih =>
      intro y
      rw [List.foldl_cons, ih, List.map_cons, List.sum_cons, ← add_assoc]
      refine congrArg (· + _) ?_
      by_cases h1 : msk v (ln k) = 1
      · by_cases h2 : (v (ln k)).toNat = x
        · rw [if_pos h1, if_pos h2, if_pos ⟨h1, h2⟩]; rfl
        · rw [if_pos h1, if_neg h2, if_neg (fun h => h2 h.2)]; exact (add_zero y).symm
      · rw [if_neg h1, if_neg (fun h => h1 h.1)]; exact (add_zero y).symm
  refine (hfold (List.finRange 16) y).trans (congrArg (y + ·) ?_)
  rw [← List.ofFn_eq_map, List.sum_ofFn]
  have hind : (∑ k : Fin 16, ind (v (ln k)) x) = (((Finset.univ.filter fun k : Fin 16 => (v (ln k)).toNat = x).card : ℝ) : EReal) := by
    unfold ind
    rw [Finset.sum_boole]
    norm_cast
  rw [hind]
  by_cases hne : (Finset.univ.filter fun k : Fin 16 => (v (ln k)).toNat = x).Nonempty
  · obtain ⟨K, hK, hmax⟩ := Finset.exists_max_image _ (fun k : Fin 16 => k) hne
    have hKx : (v (ln K)).toNat = x := (Finset.mem_filter.mp hK).2
    have hm : msk v (ln K) = 1 := (msk_iff v K).mpr fun j hj he =>
      absurd (hmax j (Finset.mem_filter.mpr ⟨Finset.mem_univ _, by rw [he, hKx]⟩)) (not_le.mpr hj)
    rw [Finset.sum_eq_single K]
    · rw [if_pos ⟨hm, hKx⟩, cnts_eq]
      refine congrArg (fun n : ℕ => ((n : ℝ) : EReal)) (congrArg Finset.card (Finset.filter_congr fun j _ => ?_))
      constructor
      · intro h; rw [h.2, hKx]
      · intro h
        exact ⟨hmax j (Finset.mem_filter.mpr ⟨Finset.mem_univ _, h⟩), BitVec.eq_of_toNat_eq (by rw [h, hKx])⟩
    · intro k _ hk
      refine if_neg fun h => ?_
      have hle := hmax k (Finset.mem_filter.mpr ⟨Finset.mem_univ _, h.2⟩)
      exact (msk_iff v k).mp h.1 K (lt_of_le_of_ne hle hk) (BitVec.eq_of_toNat_eq (by rw [h.2, hKx]))
    · intro h; exact absurd (Finset.mem_univ K) h
  · rw [Finset.not_nonempty_iff_eq_empty] at hne
    rw [hne, Finset.sum_eq_zero]
    · simp
    · intro k _
      refine if_neg fun h => ?_
      have : k ∈ (∅ : Finset (Fin 16)) := hne ▸ Finset.mem_filter.mpr ⟨Finset.mem_univ _, h.2⟩
      exact absurd this (Finset.notMem_empty _)

/-- A row's column: the number of its sixty-four words that name it. -/
theorem rowVal_eq (w : Fin 4 → V16) (x : ℕ) : (rowVal (F := Ideal) w x : EReal) = ∑ q : Fin 4, ∑ k : Fin 16, ind (w q (ln k)) x := by
  have hz : (zf : Ideal .f32) = (0 : EReal) := Ideal.ofBits_zero_f32
  unfold rowVal
  rw [colAdd_eq, colAdd_eq, colAdd_eq, colAdd_eq, hz, zero_add]
  simp only [Fin.sum_univ_four]

/-- A sum of nonnegative numbers times any number. -/
theorem sum_mul_nonneg {ι : Type} (s : Finset ι) (a : ι → EReal) (h : ∀ i, 0 ≤ a i) (c : EReal) : (∑ i ∈ s, a i) * c = ∑ i ∈ s, a i * c := by
  classical
  induction s using Finset.induction_on with
  | empty => simp
  | insert i s hi ih =>
    rw [Finset.sum_insert hi, Finset.sum_insert hi, EReal.right_distrib_of_nonneg (h i) (Finset.sum_nonneg fun j _ => h j), ih]

/-- A column picked out by a word. -/
theorem sum_ind {n : ℕ} (v : BitVec 32) (hv : v.toNat < n) (E : Fin n → EReal) : ∑ x : Fin n, ind v x.val * E x = E ⟨v.toNat, hv⟩ := by
  rw [Finset.sum_eq_single ⟨v.toNat, hv⟩]
  · unfold ind; rw [if_pos rfl, one_mul]
  · intro x _ hx
    unfold ind
    rw [if_neg (fun h => hx (Fin.ext h.symm)), zero_mul]
  · intro h; exact absurd (Finset.mem_univ _) h

/-- A row of counts against a table's column: the sum of the table's rows that the words name. -/
theorem rowVal_dot (w : Fin 4 → V16) (hw : ∀ q x, (w q x).toNat < 5008) (E : Fin 5008 → EReal) :
    (∑ x : Fin 5008, (rowVal (F := Ideal) w x.val : EReal) * E x) = ∑ q : Fin 4, ∑ k : Fin 16, E ⟨(w q (ln k)).toNat, hw q _⟩ := by
  have h1 (x : Fin 5008) : (rowVal (F := Ideal) w x.val : EReal) * E x = ∑ q : Fin 4, ∑ k : Fin 16, ind (w q (ln k)) x.val * E x := by
    rw [rowVal_eq, sum_mul_nonneg _ _ (fun q => Finset.sum_nonneg fun k _ => ind_nonneg _ _)]
    exact Finset.sum_congr rfl fun q _ => sum_mul_nonneg _ _ (fun k => ind_nonneg _ _) _
  rw [Finset.sum_congr rfl fun x _ => h1 x, Finset.sum_comm]
  refine Finset.sum_congr rfl fun q _ => ?_
  rw [Finset.sum_comm]
  exact Finset.sum_congr rfl fun k _ => sum_ind _ (hw q _) E

end Cert.Proof.Counts

end
-- ==== Proof.KernelValue.lean ====
/-
  The kernel's result at an element: the dense layers of the mean of the fifty table rows its indices name.
-/
module

public import proofs.«01_k».proof.Proof.Arrays
public import proofs.«01_k».proof.Proof.Blocks
public import proofs.«01_k».proof.Proof.Tally
public import Idealize.ShloMosaic.Lib.KernelVsHost

@[expose] public section

noncomputable section

namespace Cert.Proof.Counts

open Cert.KernelIdeal Cert.KernelIdeal.Gen
open Idealize.ShloMosaic
open Idealize.ShloMosaic.TcCoe

variable (m : (ℓ : Loc nD τ sig) → Buf (Elt Ideal) ℓ) (d : Dev nD)

/-! ## The padded indices -/

theorem f1_left (r : Fin 4096) (l : Fin 50) : f1 m d (ix2 r (Fin.castAdd 14 l)) = arg0 m d (ix2 r l) := by
  rw [f1_eq]
  refine concatenate_pair_apply_left (t := S4096x64) (s₁ := S4096x50) (s₂ := S4096x14) 1 _ _ _ _ rfl (ix2 r l) fun b => ?_
  match b with
  | ⟨0, _⟩ => rfl
  | ⟨1, _⟩ => rfl

theorem f1_right (r : Fin 4096) (l : Fin 14) : f1 m d (ix2 r (Fin.natAdd 50 l)) = 5002#32 := by
  rw [f1_eq]
  refine (concatenate_pair_apply_right (t := S4096x64) (s₁ := S4096x50) (s₂ := S4096x14) 1 _ _ _ _ rfl rfl (ix2 r l) (fun b hb => ?_) ?_).trans rfl
  · match b with
    | ⟨0, _⟩ => rfl
    | ⟨1, _⟩ => exact absurd rfl hb
  · exact Nat.add_comm l.val 50

/-- The sixteen lanes of the four chunks of a row are its sixty-four words. -/
theorem sum_chunks (g : Fin 64 → EReal) : (∑ q : Fin 4, ∑ k : Fin 16, g ⟨16 * q.val + k.val, by have := q.isLt; have := k.isLt; omega⟩) = ∑ l : Fin 64, g l := by
  rw [← Fintype.sum_prod_type']
  refine Fintype.sum_equiv (finProdFinEquiv (m := 4) (n := 16)) _ _ fun p => congrArg g (Fin.ext ?_)
  exact Nat.add_comm _ _

/-- A row of the counts against a column of a table whose rows past the vocabulary are zero: the sum of the rows the fifty words name. -/
theorem dotAt_counts (h : ∀ y, (arg0 m d y).toNat < 5002) (hf : ∀ y, (f1 m d y).toNat < 5008) (E : S5008x800.Idx → EReal) (A : S5002x800.Idx → EReal)
    (hin : ∀ (x : Fin 5002) (e : Fin 800), E (ix2 ⟨x.val, by have := x.isLt; omega⟩ e) = A (ix2 x e)) (hout : ∀ e : Fin 800, E (ix2 5002 e) = 0) (r : Fin 4096) (e : Fin 800) :
    dotAt (counts (F := Ideal) (f1 m d)) E r e = ∑ l : Fin 50, A (ix2 ⟨(arg0 m d (ix2 r l)).toNat, h _⟩ e) := by
  have h1 : dotAt (counts (F := Ideal) (f1 m d)) E r e
      = ∑ q : Fin 4, ∑ k : Fin 16, (fun l : Fin 64 => E (ix2 ⟨(f1 m d (ix2 r l)).toNat, hf _⟩ e)) ⟨16 * q.val + k.val, by have := q.isLt; have := k.isLt; omega⟩ :=
    rowVal_dot (fun q => chunk (n := 4096) (f1 m d) r q) (fun q x => hf _) fun x => E (ix2 x e)
  refine h1.trans ((sum_chunks fun l : Fin 64 => E (ix2 ⟨(f1 m d (ix2 r l)).toNat, hf _⟩ e)).trans ?_)
  refine (Fin.sum_univ_add (a := 50) (b := 14) _).trans ?_
  rw [Finset.sum_eq_zero (s := (Finset.univ : Finset (Fin 14))) fun l _ => ?_, add_zero]
  · refine Finset.sum_congr rfl fun l _ => ?_
    rw [← hin]
    refine congrArg (fun x : Fin 5008 => E (ix2 x e)) (Fin.ext ?_)
    exact congrArg BitVec.toNat (f1_left m d r l)
  · refine Eq.trans (congrArg (fun x : Fin 5008 => E (ix2 x e)) (Fin.ext ?_)) (hout e)
    exact (congrArg BitVec.toNat (f1_right m d r l)).trans (show (5002#32 : BitVec 32).toNat = (5002 : Fin 5008).val by decide)

/-! ## The layers' operands at an element -/

/-- The padding's zero. -/
theorem pz_zero (i : S_.Idx) : pz (F := Ideal) i = (0 : EReal) := by
  show (((0#32 : BitVec 32).toInt : ℝ) : EReal) = 0
  simp

theorem w4_in (x : Fin 5002) (e : Fin 800) : (W3 m d main_v4 : S5008x800.Idx → EReal) (ix2 ⟨x.val, by have := x.isLt; omega⟩ e) = arg1 m d (ix2 x e) := by
  refine Eq.trans (b := pad S5008x800 ![0, 0] ![6, 0] ![0, 0] (arg1 m d) (pz (F := Ideal)) pads_S5002x800_S5008x800_060_000 h_S_ (ix2 ⟨x.val, by have := x.isLt; omega⟩ e)) (congrFun (w4 m d) _) (pad_apply_of_inside ![0, 0] ![6, 0] ![0, 0] (arg1 m d) (pz (F := Ideal)) pads_S5002x800_S5008x800_060_000 h_S_ _ (ix2 x e) fun a => ?_)
  match a with
  | ⟨0, _⟩ => exact (by omega : x.val = 0 + x.val * (0 + 1))
  | ⟨1, _⟩ => exact (by omega : e.val = 0 + e.val * (0 + 1))

theorem w4_out (e : Fin 800) : @Eq EReal ((W3 m d main_v4 : S5008x800.Idx → EReal) (ix2 5002 e)) 0 := by
  have hp := pad_apply_of_not_inside ![0, 0] ![6, 0] ![0, 0] (arg1 m d) (pz (F := Ideal)) pads_S5002x800_S5008x800_060_000 h_S_ (ix2 5002 e : S5008x800.Idx) 0 fun h => absurd h.2.2 (by show ¬ (5002 - 0) / (0 + 1) < 5002; decide)
  exact (congrFun (w4 m d) _).trans (hp.trans (pz_zero _))

theorem w15_in (k : Fin 256) (j : Fin 2) : (W3 m d main_v15 : S256x128.Idx → EReal) (ix2 k ⟨j.val, by have := j.isLt; omega⟩) = arg10 m d (ix2 k j) := by
  refine Eq.trans (b := pad S256x128 ![0, 0] ![0, 126] ![0, 0] (arg10 m d) (pz (F := Ideal)) pads_S256x2_S256x128_000_01260 h_S_ (ix2 k ⟨j.val, by have := j.isLt; omega⟩)) (congrFun (w15 m d) _) (pad_apply_of_inside ![0, 0] ![0, 126] ![0, 0] (arg10 m d) (pz (F := Ideal)) pads_S256x2_S256x128_000_01260 h_S_ _ (ix2 k j) fun a => ?_)
  match a with
  | ⟨0, _⟩ => exact (by omega : k.val = 0 + k.val * (0 + 1))
  | ⟨1, _⟩ => exact (by omega : j.val = 0 + j.val * (0 + 1))

theorem w16_in (j : Fin 2) : (W3 m d main_v16 : S1x128.Idx → EReal) (ix2 0 ⟨j.val, by have := j.isLt; omega⟩) = arg11 m d (ix1 j) := by
  rw [w16]
  have hc (X : S128.Idx → EReal) (n : Fin 128) : shapeCast S1x128 X shapeCasts_S128_S1x128 (ix2 0 n) = X (ix1 n) := by pointwise
  refine (hc _ _).trans (pad_apply_of_inside ![0] ![126] ![0] (arg11 m d) (pz (F := Ideal)) pads_S2_S128_01260 h_S_ _ (ix1 j) fun a => ?_)
  match a with
  | ⟨0, _⟩ => exact (by omega : j.val = 0 + j.val * (0 + 1))

theorem w7_at (k : Fin 800) (n : Fin 2048) : (W3 m d main_v7 : S800x2048.Idx → EReal) (ix2 k n) = arg2 m d (ix2 k n) := congrFun (w7 m d) _

theorem w9_at (k : Fin 2048) (n : Fin 1024) : (W3 m d main_v9 : S2048x1024.Idx → EReal) (ix2 k n) = arg4 m d (ix2 k n) := congrFun (w9 m d) _

theorem w11_at (k : Fin 1024) (n : Fin 512) : (W3 m d main_v11 : S1024x512.Idx → EReal) (ix2 k n) = arg6 m d (ix2 k n) := congrFun (w11 m d) _

theorem w13_at (k : Fin 512) (n : Fin 256) : (W3 m d main_v13 : S512x256.Idx → EReal) (ix2 k n) = arg8 m d (ix2 k n) := congrFun (w13 m d) _

theorem w8_at (n : Fin 2048) : (W3 m d main_v8 : S1x2048.Idx → EReal) (ix2 0 n) = arg3 m d (ix1 n) := by
  have hc (X : S2048.Idx → EReal) (n : Fin 2048) : shapeCast S1x2048 X shapeCasts_S2048_S1x2048 (ix2 0 n) = X (ix1 n) := by pointwise
  exact (congrFun (w8 m d) _).trans (hc _ _)

theorem w10_at (n : Fin 1024) : (W3 m d main_v10 : S1x1024.Idx → EReal) (ix2 0 n) = arg5 m d (ix1 n) := by
  have hc (X : S1024.Idx → EReal) (n : Fin 1024) : shapeCast S1x1024 X shapeCasts_S1024_S1x1024 (ix2 0 n) = X (ix1 n) := by pointwise
  exact (congrFun (w10 m d) _).trans (hc _ _)

theorem w12_at (n : Fin 512) : (W3 m d main_v12 : S1x512.Idx → EReal) (ix2 0 n) = arg7 m d (ix1 n) := by
  have hc (X : S512.Idx → EReal) (n : Fin 512) : shapeCast S1x512 X shapeCasts_S512_S1x512 (ix2 0 n) = X (ix1 n) := by pointwise
  exact (congrFun (w12 m d) _).trans (hc _ _)

theorem w14_at (n : Fin 256) : (W3 m d main_v14 : S1x256.Idx → EReal) (ix2 0 n) = arg9 m d (ix1 n) := by
  have hc (X : S256.Idx → EReal) (n : Fin 256) : shapeCast S1x256 X shapeCasts_S256_S1x256 (ix2 0 n) = X (ix1 n) := by pointwise
  exact (congrFun (w14 m d) _).trans (hc _ _)

/-- The last layer's columns are independent of one another. -/
theorem net_column {N M : ℕ} {p p' : Fin 800 → EReal} {W1 W1' : Fin 800 → Fin 2048 → EReal} {b1 b1' : Fin 2048 → EReal} {W2 W2' : Fin 2048 → Fin 1024 → EReal} {b2 b2' : Fin 1024 → EReal}
    {W3 W3' : Fin 1024 → Fin 512 → EReal} {b3 b3' : Fin 512 → EReal} {W4 W4' : Fin 512 → Fin 256 → EReal} {b4 b4' : Fin 256 → EReal} {W5 : Fin 256 → Fin N → EReal} {b5 : Fin N → EReal}
    {W5' : Fin 256 → Fin M → EReal} {b5' : Fin M → EReal} (i : Fin N) (j : Fin M) (hp : ∀ e, p e = p' e) (h1 : ∀ k n, W1 k n = W1' k n) (hb1 : ∀ n, b1 n = b1' n)
    (h2 : ∀ k n, W2 k n = W2' k n) (hb2 : ∀ n, b2 n = b2' n) (h3 : ∀ k n, W3 k n = W3' k n) (hb3 : ∀ n, b3 n = b3' n) (h4 : ∀ k n, W4 k n = W4' k n) (hb4 : ∀ n, b4 n = b4' n)
    (h5 : ∀ k, W5 k i = W5' k j) (hb5 : b5 i = b5' j) :
    net p W1 b1 W2 b2 W3 b3 W4 b4 W5 b5 i = net p' W1' b1' W2' b2' W3' b3' W4' b4' W5' b5' j := by
  obtain rfl : p = p' := funext hp
  obtain rfl : W1 = W1' := funext fun k => funext (h1 k)
  obtain rfl : b1 = b1' := funext hb1
  obtain rfl : W2 = W2' := funext fun k => funext (h2 k)
  obtain rfl : b2 = b2' := funext hb2
  obtain rfl : W3 = W3' := funext fun k => funext (h3 k)
  obtain rfl : b3 = b3' := funext hb3
  obtain rfl : W4 = W4' := funext fun k => funext (h4 k)
  obtain rfl : b4 = b4' := funext hb4
  unfold net lin
  rw [hb5]
  exact congrArg (· + b5' j) (Finset.sum_congr rfl fun k _ => by rw [h5])

/-- The kernel's result at an element. -/
theorem kernel_apply (h : ∀ y, (arg0 m d y).toNat < 5002) (hf : ∀ y, (f1 m d y).toNat < 5008) (r : Fin 4096) (j : Fin 2) :
    (V5 m d (Proc.devRef .tc main_v18) : S4096x2.Idx → EReal) (ix2 r j)
      = net (fun e => (∑ l : Fin 50, arg1 m d (ix2 ⟨(arg0 m d (ix2 r l)).toNat, h _⟩ e)) * ((1 / 50 : ℝ) : EReal)) (fun k n => arg2 m d (ix2 k n)) (fun n => arg3 m d (ix1 n))
          (fun k n => arg4 m d (ix2 k n)) (fun n => arg5 m d (ix1 n)) (fun k n => arg6 m d (ix2 k n)) (fun n => arg7 m d (ix1 n)) (fun k n => arg8 m d (ix2 k n)) (fun n => arg9 m d (ix1 n))
          (fun k n => arg10 m d (ix2 k n)) (fun n => arg11 m d (ix1 n)) j := by
  refine (congrFun (v18 m d) _).trans ?_
  refine (extractStridedSlice_apply ![0, 0] _ slices_S4096x128_S4096x2_0_0 (ix2 r j) (ix2 r ⟨j.val, by have := j.isLt; omega⟩) fun a => ?_).trans ?_
  · match a with
    | ⟨0, _⟩ => exact (Nat.zero_add r.val).symm
    | ⟨1, _⟩ => exact (Nat.zero_add j.val).symm
  refine (layers_apply (W3 m) d r _).trans ?_
  unfold layersAt
  refine net_column _ j (fun e => ?_) (w7_at m d) (w8_at m d) (w9_at m d) (w10_at m d) (w11_at m d) (w12_at m d) (w13_at m d) (w14_at m d) (fun k => w15_in m d k j) (w16_in m d j)
  refine congrArg (fun s => s * ((1 / 50 : ℝ) : EReal)) ?_
  refine (congrArg (fun A : S4096x5008.Idx → EReal => dotAt A (W3 m d main_v4) r e) (w2 m d)).trans ?_
  exact dotAt_counts m d h hf _ (arg1 m d) (w4_in m d) (w4_out m d) r e

end Cert.Proof.Counts

end
-- ==== Proof.RefValue.lean ====
/-
  The reference's value, cut into the mean of the looked-up rows and the dense layers, over the extended reals.
-/
module

public import proofs.«01_k».proof.Proof.Dense
public import proofs.«01_k».proof.Proof.Gen.ReferenceIdeal.Run

@[expose] public section

noncomputable section

namespace Cert.Proof.Counts

open Cert.ReferenceIdeal Cert.ReferenceIdeal.Gen
open Idealize.ShloMosaic Idealize.ShloMosaic.TcCoe

variable {F : FTy → Type} [FloatOps F]

/-- The reference's mean of the looked-up rows. -/
def refPool (A0 : IVec S4096x50 32) (A1 : FVec F S5002x800 .f32) : FVec F S4096x800 .f32 :=
  Host.divf (Host.reduceAdd (select (broadcastInDim S4096x50x800 ![0, 1] bcast_S4096x50_S4096x50x800_0_1 (Host.reduce IntOp.andi (andi (cmpi .sge (broadcastInDim S4096x50x1 ![0, 1] bcast_S4096x50_S4096x50x1_0_1 (select (cmpi .slt A0 (broadcastInDim S4096x50 ![] bcast_S_S4096x50 (constantI S_ 32 0#32))) (addi A0 (broadcastInDim S4096x50 ![] bcast_S_S4096x50 (constantI S_ 32 5002#32))) A0)) (broadcastInDim S4096x50x1 ![] bcast_S_S4096x50x1 (constantI S_ 32 0#32))) (cmpi .sle (broadcastInDim S4096x50x1 ![0, 1] bcast_S4096x50_S4096x50x1_0_1 (select (cmpi .slt A0 (broadcastInDim S4096x50 ![] bcast_S_S4096x50 (constantI S_ 32 0#32))) (addi A0 (broadcastInDim S4096x50 ![] bcast_S_S4096x50 (constantI S_ 32 5002#32))) A0)) (broadcastInDim S4096x50x1 ![0, 1, 2] bcast_S1x1x1_S4096x50x1_0_1_2 (broadcastInDim S1x1x1 ![2] bcast_S1_S1x1x1_2 (constantI S1 32 5001#32))))) (constantI S_ 1 1#1) reducesTo_S4096x50x1_S4096x50_d2 h_S_)) (Host.gather gather_S5002x800_S4096x50x1_S4096x50x800_2_0_n_n_0_2_1800 A1 (broadcastInDim S4096x50x1 ![0, 1] bcast_S4096x50_S4096x50x1_0_1 (select (cmpi .slt A0 (broadcastInDim S4096x50 ![] bcast_S_S4096x50 (constantI S_ 32 0#32))) (addi A0 (broadcastInDim S4096x50 ![] bcast_S_S4096x50 (constantI S_ 32 5002#32))) A0))) (broadcastInDim S4096x50x800 ![] bcast_S_S4096x50x800 (constant S_ .f32 0x7FC00000#32))) (constant S_ .f32 0x00000000#32) reducesTo_S4096x50x800_S4096x800_d1 h_S_) (broadcastInDim S4096x800 ![] bcast_S_S4096x800 (constant S_ .f32 0x42480000#32))

/-- The reference's dense layers of the means `P`. -/
def refTail (P : FVec F S4096x800 .f32) (A2 : FVec F S800x2048 .f32) (A3 : FVec F S2048 .f32) (A4 : FVec F S2048x1024 .f32) (A5 : FVec F S1024 .f32) (A6 : FVec F S1024x512 .f32) (A7 : FVec F S512 .f32) (A8 : FVec F S512x256 .f32) (A9 : FVec F S256 .f32) (A10 : FVec F S256x2 .f32) (A11 : FVec F S2 .f32) : FVec F S4096x2 .f32 :=
  addf (Host.dotGeneral dot_S4096x256_S256x2_S4096x2_1_0_0_1_n_n none (maximumf (addf (Host.dotGeneral dot_S4096x512_S512x256_S4096x256_1_0_0_1_n_n none (maximumf (addf (Host.dotGeneral dot_S4096x1024_S1024x512_S4096x512_1_0_0_1_n_n none (maximumf (addf (Host.dotGeneral dot_S4096x2048_S2048x1024_S4096x1024_1_0_0_1_n_n none (maximumf (addf (Host.dotGeneral dot_S4096x800_S800x2048_S4096x2048_1_0_0_1_n_n none P A2) (broadcastInDim S4096x2048 ![0, 1] bcast_S1x2048_S4096x2048_0_1 (broadcastInDim S1x2048 ![1] bcast_S2048_S1x2048_1 A3))) (broadcastInDim S4096x2048 ![] bcast_S_S4096x2048 (constant S_ .f32 0x00000000#32))) A4) (broadcastInDim S4096x1024 ![0, 1] bcast_S1x1024_S4096x1024_0_1 (broadcastInDim S1x1024 ![1] bcast_S1024_S1x1024_1 A5))) (broadcastInDim S4096x1024 ![] bcast_S_S4096x1024 (constant S_ .f32 0x00000000#32))) A6) (broadcastInDim S4096x512 ![0, 1] bcast_S1x512_S4096x512_0_1 (broadcastInDim S1x512 ![1] bcast_S512_S1x512_1 A7))) (broadcastInDim S4096x512 ![] bcast_S_S4096x512 (constant S_ .f32 0x00000000#32))) A8) (broadcastInDim S4096x256 ![0, 1] bcast_S1x256_S4096x256_0_1 (broadcastInDim S1x256 ![1] bcast_S256_S1x256_1 A9))) (broadcastInDim S4096x256 ![] bcast_S_S4096x256 (constant S_ .f32 0x00000000#32))) A10) (broadcastInDim S4096x2 ![0, 1] bcast_S1x2_S4096x2_0_1 (broadcastInDim S1x2 ![1] bcast_S2_S1x2_1 A11))

/-- The layers of a row, in textbook form. -/
theorem refTail_apply (P : FVec Ideal S4096x800 .f32) (A2 : FVec Ideal S800x2048 .f32) (A3 : FVec Ideal S2048 .f32) (A4 : FVec Ideal S2048x1024 .f32) (A5 : FVec Ideal S1024 .f32) (A6 : FVec Ideal S1024x512 .f32) (A7 : FVec Ideal S512 .f32) (A8 : FVec Ideal S512x256 .f32) (A9 : FVec Ideal S256 .f32) (A10 : FVec Ideal S256x2 .f32) (A11 : FVec Ideal S2 .f32) (r : Fin 4096) (j : Fin 2) :
    refTail (F := Ideal) P A2 A3 A4 A5 A6 A7 A8 A9 A10 A11 (ix2 r j)
      = net (fun e => P (ix2 r e)) (fun k n => A2 (ix2 k n)) (fun n => A3 (ix1 n)) (fun k n => A4 (ix2 k n)) (fun n => A5 (ix1 n))
          (fun k n => A6 (ix2 k n)) (fun n => A7 (ix1 n)) (fun k n => A8 (ix2 k n)) (fun n => A9 (ix1 n)) (fun k n => A10 (ix2 k n)) (fun n => A11 (ix1 n)) j := by
  pointwise [refTail, net, lin, act]

end Cert.Proof.Counts

end
-- ==== Proof.RefPool.lean ====
/-
  The reference's mean of the looked-up rows, read at an element: under the index range it is the plain sum of fifty table rows over fifty.
-/
module

public import proofs.«01_k».proof.Proof.RefValue

@[expose] public section

noncomputable section

namespace Cert.Proof.Counts

open Cert.ReferenceIdeal Cert.ReferenceIdeal.Gen
open Idealize.ShloMosaic Idealize.ShloMosaic.TcCoe

/-- The look-up's dimension numbers. -/
abbrev G₀ : GatherDims S5002x800 S4096x50x1 S4096x50x800 := gather_S5002x800_S4096x50x1_S4096x50x800_2_0_n_n_0_2_1800

/-- The look-up at a result element: the table at the row its start index names, when that is a row. -/
theorem lookup_apply {α : Type} (x : S5002x800.Idx → α) (idx : IVec S4096x50x1 32) (r : Fin 4096) (l : Fin 50) (e : Fin 800) (b : Fin 5002)
    (hb : (idx (ix3 r l 0)).toInt.toNat = b.val) : Host.gather G₀ x idx (ix3 r l e) = x (ix2 b e) := by
  unfold Host.gather
  refine congrArg x (funext fun a => Fin.ext ?_)
  show GatherDims.start G₀ (ix3 r l e) idx a + GatherDims.batchCoord G₀ (ix3 r l e) a + GatherDims.offCoord G₀ (ix3 r l e) a = _
  rw [GatherDims.batchCoord_eq_zero _ _ _ List.not_mem_nil, Nat.add_zero]
  have ha : a = 0 ∨ a = 1 := match a with
    | ⟨0, _⟩ => Or.inl rfl
    | ⟨1, _⟩ => Or.inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ GatherDims.startIndexMap G₀ from List.mem_singleton.mpr rfl)]
    have hsi : GatherDims.siIdx G₀ (ix3 r l e) ⟨List.idxOf (0 : Fin 2) (GatherDims.startIndexMap G₀),
        List.idxOf_lt_length_iff.2 (List.mem_singleton.mpr rfl)⟩ = ix3 r l 0 := by
      funext c; refine Fin.ext ?_
      match c with
      | ⟨0, _⟩ => rfl
      | ⟨1, _⟩ => rfl
      | ⟨2, _⟩ => rfl
    refine (congrArg (fun i => min (idx i).toInt.toNat (5002 - 1)) hsi).trans ?_
    show min (idx (ix3 r l 0)).toInt.toNat (5002 - 1) = b.val
    have := b.isLt
    omega
  · unfold GatherDims.start
    rw [dif_neg (show (1 : Fin 2) ∉ GatherDims.startIndexMap G₀ from by decide), Nat.zero_add]
    rfl

/-- The comparisons of an index word in range: not negative, at least zero, at most the last row. -/
theorem word_cmps (v : BitVec 32) (h : v.toNat < 5002) :
    IntOp.cmpi .slt v 0#32 = 0#1 ∧ IntOp.cmpi .sge v 0#32 = 1#1 ∧ IntOp.cmpi .sle v 5001#32 = 1#1 ∧ v.toInt.toNat = v.toNat := by
  have hi : v.toInt = (v.toNat : ℤ) := by
    rw [BitVec.toInt_eq_toNat_cond]
    simp only [Nat.reducePow]
    rw [if_pos (by omega)]
  have h0 : (0#32 : BitVec 32).toInt = 0 := by decide
  have h5 : (5001#32 : BitVec 32).toInt = 5001 := by decide
  refine ⟨?_, ?_, ?_, ?_⟩
  · simp only [IntOp.cmpi, BitVec.slt_eq_decide, hi, h0]
    rw [decide_eq_false (by omega)]; rfl
  · simp only [IntOp.cmpi, BitVec.sle_eq_decide, hi, h0]
    rw [decide_eq_true (by omega)]; rfl
  · simp only [IntOp.cmpi, BitVec.sle_eq_decide, hi, h5]
    rw [decide_eq_true (by omega)]; rfl
  · rw [hi]; rfl

/-- The word of fifty as a float. -/
theorem fifty : Ideal.ofBits .f32 0x42480000#32 = ((50 : ℝ) : EReal) := by
  simp [Ideal.ofBits, Ideal.ieee, -EReal.coe_mul]; norm_num

/-- The mean of the looked-up rows at an element. -/
theorem refPool_apply (A0 : IVec S4096x50 32) (h : ∀ y, (A0 y).toNat < 5002) (A1 : FVec Ideal S5002x800 .f32) (r : Fin 4096) (e : Fin 800) :
    refPool (F := Ideal) A0 A1 (ix2 r e) = (∑ l : Fin 50, A1 (ix2 ⟨(A0 (ix2 r l)).toNat, h _⟩ e)) * ((1 / 50 : ℝ) : EReal) := by
  have hw := fun l : Fin 50 => word_cmps (A0 (ix2 r l)) (h _)
  have hd (x : EReal) : Ideal.div x ((50 : ℝ) : EReal) = x * ((1 / 50 : ℝ) : EReal) := by
    unfold Ideal.div
    rw [if_neg (by exact_mod_cast (by norm_num : (50 : ℝ) ≠ 0)), ← EReal.coe_inv]
    norm_num
  pointwise [refPool]
  simp only [fifty, hd, (hw _).1, (hw _).2.1, (hw _).2.2.1]
  refine congrArg (fun s => s * ((1 / 50 : ℝ) : EReal)) (Finset.sum_congr rfl fun l _ => ?_)
  have hf : Finset.fold IntOp.andi (1#1) (fun _ : Fin 1 => IntOp.andi (1#1) (1#1)) Finset.univ = 1#1 := by decide
  have h0 (a b : BitVec 32) : Scalar.select (0#1) a b = b := rfl
  have h1 (a b : EReal) : Scalar.select (1#1) a b = a := rfl
  have hi : ((broadcastInDim S4096x50x1 ![0, 1] bcast_S4096x50_S4096x50x1_0_1
          (select (cmpi CmpIPredicate.slt A0 (broadcastInDim S4096x50 ![] bcast_S_S4096x50 (constantI S_ 32 0#32)))
            (addi A0 (broadcastInDim S4096x50 ![] bcast_S_S4096x50 (constantI S_ 32 5002#32))) A0) : IVec S4096x50x1 32) (ix3 r l 0)) = A0 (ix2 r l) := by
    pointwise
    rw [(hw l).1, h0]
  simp only [h0, (hw l).2.1, (hw l).2.2.1]
  refine (congrArg (fun c => Scalar.select c _ _) hf).trans ((h1 _ _).trans (lookup_apply _ _ r l e ⟨_, h _⟩ ?_))
  rw [hi]
  exact (hw l).2.2.2

end Cert.Proof.Counts

end
-- ==== Proof.Algebraic.lean ====
/-
  The claim of equal values: the kernel and the reference, over the extended reals, end with one array.
-/
module

public import proofs.«01_k».proof.Proof.Frames
public import proofs.«01_k».proof.Proof.KernelValue
public import proofs.«01_k».proof.Proof.RefPool

@[expose] public section

noncomputable section

namespace Cert.Proof.Counts

open Idealize.ShloMosaic Idealize.SL.Sem
open Idealize.ShloMosaic.TcCoe
open Cert.KernelIdeal (nD τ sig main_v18)

/-- The reference's term of the kernel's arguments is the kernel's result. -/
theorem ref_eq (m : (ℓ : Loc nD τ sig) → Buf (Elt Ideal) ℓ) (d : Dev nD) (h : ∀ y, (arg0 m d y).toNat < 5002) :
    refTail (F := Ideal) (refPool (F := Ideal) (arg0 m d) (arg1 m d)) (arg2 m d) (arg3 m d) (arg4 m d) (arg5 m d) (arg6 m d) (arg7 m d) (arg8 m d) (arg9 m d) (arg10 m d) (arg11 m d)
      = (V5 m d (Proc.devRef .tc main_v18) : Cert.KernelIdeal.S4096x2.Idx → EReal) := by
  funext y
  obtain ⟨r, j, rfl⟩ : ∃ (r : Fin 4096) (j : Fin 2), y = ix2 r j := ⟨y 0, y 1, eq_ix2 y⟩
  refine (refTail_apply _ _ _ _ _ _ _ _ _ _ _ r j).trans (Eq.trans ?_ (kernel_apply m d h (f1_lt m d h) r j).symm)
  exact net_column j j (fun e => refPool_apply (arg0 m d) h (arg1 m d) r e) (fun _ _ => rfl) (fun _ => rfl) (fun _ _ => rfl) (fun _ => rfl) (fun _ _ => rfl) (fun _ => rfl)
    (fun _ _ => rfl) (fun _ => rfl) (fun _ => rfl) rfl

theorem algebraic : Cert.algebraic_KernelIdeal_ReferenceIdeal := fun m ρ m' ρ' hpre hargs =>
  have hlt (d : Dev nD) : ∀ y, (arg0 m d y).toNat < 5002 := pre_lt _ _ _ _ _ _ _ _ _ _ _ _ (hpre d)
  ⟨fun c => V5 m c (Proc.devRef .tc main_v18),
    (θ_run Cert.KernelIdeal.defs _ _).mono (fun r h c => ⟨h.1 c _ (mem_uc main_v18 (by decide)), kept_all m r h c⟩)
      (run_main (F := Ideal) m ρ (fun d y => f1_lt m d (hlt d) y)),
    (θ_run Cert.ReferenceIdeal.defs _ _).mono (fun r h c => ⟨by
        obtain ⟨h0, h1, h2, h3, h4, h5, h6, h7, h8, h9, h10, h11⟩ := hargs c
        refine (h c).1.trans ?_
        refine Eq.trans ?_ (ref_eq m c (hlt c))
        rw [h0, h1, h2, h3, h4, h5, h6, h7, h8, h9, h10, h11]
        rfl, (h c).2⟩)
      (Cert.ReferenceIdeal.Value.run (F := Ideal) m' ρ')⟩

end Cert.Proof.Counts

end
-- ==== Proof.lean ====
/-
  The certificate's claim, put together from the frames and the value equation.
-/
module

public import proofs.«01_k».proof.Defs
public import proofs.«01_k».proof.Proof.FrameBits
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_in_vocabulary

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_in_vocabulary.Gen.facts,
  Counts.frame_bits, Counts.frame_ideal, Counts.frame_ref, Counts.keep, Counts.algebraic⟩

end Cert.Proof

end
